-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_DwGateUp (m : (ℓ : Loc Cert.DwGateUp.nD Cert.DwGateUp.τ Cert.DwGateUp.sig) → Buf (Elt Bits) ℓ) : Prop :=
  True

def Pre_DwGateUpIdeal (m : (ℓ : Loc Cert.DwGateUpIdeal.nD Cert.DwGateUpIdeal.τ Cert.DwGateUpIdeal.sig) → Buf (Elt Ideal) ℓ) : Prop :=
  True

def Pre_DwGateUpRefIdeal (m : (ℓ : Loc Cert.DwGateUpRefIdeal.nD Cert.DwGateUpRefIdeal.τ Cert.DwGateUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwO (m : (ℓ : Loc Cert.DwO.nD Cert.DwO.τ Cert.DwO.sig) → Buf (Elt Bits) ℓ) : Prop :=
  True

def Pre_DwOIdeal (m : (ℓ : Loc Cert.DwOIdeal.nD Cert.DwOIdeal.τ Cert.DwOIdeal.sig) → Buf (Elt Ideal) ℓ) : Prop :=
  True

def Pre_DwORefIdeal (m : (ℓ : Loc Cert.DwORefIdeal.nD Cert.DwORefIdeal.τ Cert.DwORefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DMixed (m : (ℓ : Loc Cert.DMixed.nD Cert.DMixed.τ Cert.DMixed.sig) → Buf (Elt Bits) ℓ) : Prop :=
  True

def Pre_DMixedIdeal (m : (ℓ : Loc Cert.DMixedIdeal.nD Cert.DMixedIdeal.τ Cert.DMixedIdeal.sig) → Buf (Elt Ideal) ℓ) : Prop :=
  True

def Pre_DMixedRefIdeal (m : (ℓ : Loc Cert.DMixedRefIdeal.nD Cert.DMixedRefIdeal.τ Cert.DMixedRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActIdeal_finite [hPre_finite : Cert.Pre_finite.Facts] (m : (ℓ : Loc Cert.DActIdeal.nD Cert.DActIdeal.τ Cert.DActIdeal.sig) → Buf (Elt Ideal) ℓ) : Prop :=
  ∀ c : Dev Cert.DActIdeal.nD,
    (Cert.Pre_finite.fn (F := Ideal) (m ((c.tc : Thread Cert.DActIdeal.nD Cert.DActIdeal.τ).loc Cert.DActIdeal.main_arg0)) (m ((c.tc : Thread Cert.DActIdeal.nD Cert.DActIdeal.τ).loc Cert.DActIdeal.main_arg1)) (m ((c.tc : Thread Cert.DActIdeal.nD Cert.DActIdeal.τ).loc Cert.DActIdeal.main_arg2))) = (fun _ => 1#1)

def Pre_DActRefIdeal (m : (ℓ : Loc Cert.DActRefIdeal.nD Cert.DActRefIdeal.τ Cert.DActRefIdeal.sig) → Buf (Elt Ideal) ℓ) : Prop :=
  True

def Pre_DActRefIdeal_finite [hPre_finite : Cert.Pre_finite.Facts] (m : (ℓ : Loc Cert.DActRefIdeal.nD Cert.DActRefIdeal.τ Cert.DActRefIdeal.sig) → Buf (Elt Ideal) ℓ) : Prop :=
  ∀ c : Dev Cert.DActRefIdeal.nD,
    (Cert.Pre_finite.fn (F := Ideal) (m ((c.tc : Thread Cert.DActRefIdeal.nD Cert.DActRefIdeal.τ).loc Cert.DActRefIdeal.main_arg0)) (m ((c.tc : Thread Cert.DActRefIdeal.nD Cert.DActRefIdeal.τ).loc Cert.DActRefIdeal.main_arg1)) (m ((c.tc : Thread Cert.DActRefIdeal.nD Cert.DActRefIdeal.τ).loc Cert.DActRefIdeal.main_arg2))) = (fun _ => 1#1)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_DwGateUp [hDwGateUp : Cert.DwGateUp.Facts] : Prop :=
  ∀ (m : (ℓ : Loc Cert.DwGateUp.nD Cert.DwGateUp.τ Cert.DwGateUp.sig) → Buf (Elt Bits) ℓ) (g : Dev Cert.DwGateUp.nD → PrngReg), Pre_DwGateUp m →
    θ_run (Cert.DwGateUp.defs (F := Bits)) (onTc (τ := Cert.DwGateUp.τ) (Cert.DwGateUp.main (F := Bits))) ⟨m, fun _ => 0, g⟩ (fun r => (∀ c : Dev Cert.DwGateUp.nD,
      r.2.mem ((c.tc : Thread Cert.DwGateUp.nD Cert.DwGateUp.τ).loc Cert.DwGateUp.main_arg0) = m ((c.tc : Thread Cert.DwGateUp.nD Cert.DwGateUp.τ).loc Cert.DwGateUp.main_arg0)
      ∧ r.2.mem ((c.tc : Thread Cert.DwGateUp.nD Cert.DwGateUp.τ).loc Cert.DwGateUp.main_arg1) = m ((c.tc : Thread Cert.DwGateUp.nD Cert.DwGateUp.τ).loc Cert.DwGateUp.main_arg1))
      ∧ r.2.sem = fun _ => 0)

def quiescent_DwGateUpIdeal [hDwGateUpIdeal : Cert.DwGateUpIdeal.Facts] : Prop :=
  ∀ (m : (ℓ : Loc Cert.DwGateUpIdeal.nD Cert.DwGateUpIdeal.τ Cert.DwGateUpIdeal.sig) → Buf (Elt Ideal) ℓ) (g : Dev Cert.DwGateUpIdeal.nD → PrngReg), Pre_DwGateUpIdeal m →
    θ_run (Cert.DwGateUpIdeal.defs (F := Ideal)) (onTc (τ := Cert.DwGateUpIdeal.τ) (Cert.DwGateUpIdeal.main (F := Ideal))) ⟨m, fun _ => 0, g⟩ (fun r => (∀ c : Dev Cert.DwGateUpIdeal.nD,
      r.2.mem ((c.tc : Thread Cert.DwGateUpIdeal.nD Cert.DwGateUpIdeal.τ).loc Cert.DwGateUpIdeal.main_arg0) = m ((c.tc : Thread Cert.DwGateUpIdeal.nD Cert.DwGateUpIdeal.τ).loc Cert.DwGateUpIdeal.main_arg0)
      ∧ r.2.mem ((c.tc : Thread Cert.DwGateUpIdeal.nD Cert.DwGateUpIdeal.τ).loc Cert.DwGateUpIdeal.main_arg1) = m ((c.tc : Thread Cert.DwGateUpIdeal.nD Cert.DwGateUpIdeal.τ).loc Cert.DwGateUpIdeal.main_arg1))
      ∧ r.2.sem = fun _ => 0)

def quiescent_DwGateUpRefIdeal [hDwGateUpRefIdeal : Cert.DwGateUpRefIdeal.Facts] : Prop :=
  ∀ (m : (ℓ : Loc Cert.DwGateUpRefIdeal.nD Cert.DwGateUpRefIdeal.τ Cert.DwGateUpRefIdeal.sig) → Buf (Elt Ideal) ℓ) (g : Dev Cert.DwGateUpRefIdeal.nD → PrngReg), Pre_DwGateUpRefIdeal m →
    θ_run (Cert.DwGateUpRefIdeal.defs (F := Ideal)) (onTc (τ := Cert.DwGateUpRefIdeal.τ) (Cert.DwGateUpRefIdeal.main (F := Ideal))) ⟨m, fun _ => 0, g⟩ (fun r => (∀ c : Dev Cert.DwGateUpRefIdeal.nD,
      r.2.mem ((c.tc : Thread Cert.DwGateUpRefIdeal.nD Cert.DwGateUpRefIdeal.τ).loc Cert.DwGateUpRefIdeal.main_arg0) = m ((c.tc : Thread Cert.DwGateUpRefIdeal.nD Cert.DwGateUpRefIdeal.τ).loc Cert.DwGateUpRefIdeal.main_arg0)
      ∧ r.2.mem ((c.tc : Thread Cert.DwGateUpRefIdeal.nD Cert.DwGateUpRefIdeal.τ).loc Cert.DwGateUpRefIdeal.main_arg1) = m ((c.tc : Thread Cert.DwGateUpRefIdeal.nD Cert.DwGateUpRefIdeal.τ).loc Cert.DwGateUpRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwO [hDwO : Cert.DwO.Facts] : Prop :=
  ∀ (m : (ℓ : Loc Cert.DwO.nD Cert.DwO.τ Cert.DwO.sig) → Buf (Elt Bits) ℓ) (g : Dev Cert.DwO.nD → PrngReg), Pre_DwO m →
    θ_run (Cert.DwO.defs (F := Bits)) (onTc (τ := Cert.DwO.τ) (Cert.DwO.main (F := Bits))) ⟨m, fun _ => 0, g⟩ (fun r => (∀ c : Dev Cert.DwO.nD,
      r.2.mem ((c.tc : Thread Cert.DwO.nD Cert.DwO.τ).loc Cert.DwO.main_arg0) = m ((c.tc : Thread Cert.DwO.nD Cert.DwO.τ).loc Cert.DwO.main_arg0)
      ∧ r.2.mem ((c.tc : Thread Cert.DwO.nD Cert.DwO.τ).loc Cert.DwO.main_arg1) = m ((c.tc : Thread Cert.DwO.nD Cert.DwO.τ).loc Cert.DwO.main_arg1))
      ∧ r.2.sem = fun _ => 0)

def quiescent_DwOIdeal [hDwOIdeal : Cert.DwOIdeal.Facts] : Prop :=
  ∀ (m : (ℓ : Loc Cert.DwOIdeal.nD Cert.DwOIdeal.τ Cert.DwOIdeal.sig) → Buf (Elt Ideal) ℓ) (g : Dev Cert.DwOIdeal.nD → PrngReg), Pre_DwOIdeal m →
    θ_run (Cert.DwOIdeal.defs (F := Ideal)) (onTc (τ := Cert.DwOIdeal.τ) (Cert.DwOIdeal.main (F := Ideal))) ⟨m, fun _ => 0, g⟩ (fun r => (∀ c : Dev Cert.DwOIdeal.nD,
      r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
      ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ r.2.sem = fun _ => 0)

def quiescent_DwORefIdeal [hDwORefIdeal : Cert.DwORefIdeal.Facts] : Prop :=
  ∀ (m : (ℓ : Loc Cert.DwORefIdeal.nD Cert.DwORefIdeal.τ Cert.DwORefIdeal.sig) → Buf (Elt Ideal) ℓ) (g : Dev Cert.DwORefIdeal.nD → PrngReg), Pre_DwORefIdeal m →
    θ_run (Cert.DwORefIdeal.defs (F := Ideal)) (onTc (τ := Cert.DwORefIdeal.τ) (Cert.DwORefIdeal.main (F := Ideal))) ⟨m, fun _ => 0, g⟩ (fun r => (∀ c : Dev Cert.DwORefIdeal.nD,
      r.2.mem ((c.tc : Thread Cert.DwORefIdeal.nD Cert.DwORefIdeal.τ).loc Cert.DwORefIdeal.main_arg0) = m ((c.tc : Thread Cert.DwORefIdeal.nD Cert.DwORefIdeal.τ).loc Cert.DwORefIdeal.main_arg0)
      ∧ r.2.mem ((c.tc : Thread Cert.DwORefIdeal.nD Cert.DwORefIdeal.τ).loc Cert.DwORefIdeal.main_arg1) = m ((c.tc : Thread Cert.DwORefIdeal.nD Cert.DwORefIdeal.τ).loc Cert.DwORefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DMixed [hDMixed : Cert.DMixed.Facts] : Prop :=
  ∀ (m : (ℓ : Loc Cert.DMixed.nD Cert.DMixed.τ Cert.DMixed.sig) → Buf (Elt Bits) ℓ) (g : Dev Cert.DMixed.nD → PrngReg), Pre_DMixed m →
    θ_run (Cert.DMixed.defs (F := Bits)) (onTc (τ := Cert.DMixed.τ) (Cert.DMixed.main (F := Bits))) ⟨m, fun _ => 0, g⟩ (fun r => (∀ c : Dev Cert.DMixed.nD,
      r.2.mem ((c.tc : Thread Cert.DMixed.nD Cert.DMixed.τ).loc Cert.DMixed.main_arg0) = m ((c.tc : Thread Cert.DMixed.nD Cert.DMixed.τ).loc Cert.DMixed.main_arg0)
      ∧ r.2.mem ((c.tc : Thread Cert.DMixed.nD Cert.DMixed.τ).loc Cert.DMixed.main_arg1) = m ((c.tc : Thread Cert.DMixed.nD Cert.DMixed.τ).loc Cert.DMixed.main_arg1))
      ∧ r.2.sem = fun _ => 0)

def quiescent_DMixedIdeal [hDMixedIdeal : Cert.DMixedIdeal.Facts] : Prop :=
  ∀ (m : (ℓ : Loc Cert.DMixedIdeal.nD Cert.DMixedIdeal.τ Cert.DMixedIdeal.sig) → Buf (Elt Ideal) ℓ) (g : Dev Cert.DMixedIdeal.nD → PrngReg), Pre_DMixedIdeal m →
    θ_run (Cert.DMixedIdeal.defs (F := Ideal)) (onTc (τ := Cert.DMixedIdeal.τ) (Cert.DMixedIdeal.main (F := Ideal))) ⟨m, fun _ => 0, g⟩ (fun r => (∀ c : Dev Cert.DMixedIdeal.nD,
      r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
      ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ r.2.sem = fun _ => 0)

def quiescent_DMixedRefIdeal [hDMixedRefIdeal : Cert.DMixedRefIdeal.Facts] : Prop :=
  ∀ (m : (ℓ : Loc Cert.DMixedRefIdeal.nD Cert.DMixedRefIdeal.τ Cert.DMixedRefIdeal.sig) → Buf (Elt Ideal) ℓ) (g : Dev Cert.DMixedRefIdeal.nD → PrngReg), Pre_DMixedRefIdeal m →
    θ_run (Cert.DMixedRefIdeal.defs (F := Ideal)) (onTc (τ := Cert.DMixedRefIdeal.τ) (Cert.DMixedRefIdeal.main (F := Ideal))) ⟨m, fun _ => 0, g⟩ (fun r => (∀ c : Dev Cert.DMixedRefIdeal.nD,
      r.2.mem ((c.tc : Thread Cert.DMixedRefIdeal.nD Cert.DMixedRefIdeal.τ).loc Cert.DMixedRefIdeal.main_arg0) = m ((c.tc : Thread Cert.DMixedRefIdeal.nD Cert.DMixedRefIdeal.τ).loc Cert.DMixedRefIdeal.main_arg0)
      ∧ r.2.mem ((c.tc : Thread Cert.DMixedRefIdeal.nD Cert.DMixedRefIdeal.τ).loc Cert.DMixedRefIdeal.main_arg1) = m ((c.tc : Thread Cert.DMixedRefIdeal.nD Cert.DMixedRefIdeal.τ).loc Cert.DMixedRefIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActIdeal_pre_finite [hDActIdeal : Cert.DActIdeal.Facts] [hPre_finite : Cert.Pre_finite.Facts] : Prop :=
  ∀ (m : (ℓ : Loc Cert.DActIdeal.nD Cert.DActIdeal.τ Cert.DActIdeal.sig) → Buf (Elt Ideal) ℓ) (g : Dev Cert.DActIdeal.nD → PrngReg), Pre_DActIdeal_finite m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2))
      ∧ r.2.sem = fun _ => 0)

def quiescent_DActRefIdeal_pre_finite [hDActRefIdeal : Cert.DActRefIdeal.Facts] [hPre_finite : Cert.Pre_finite.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal_finite m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)) (v3 : (c : Dev Cert.ConvIdeal.nD) → Buf (Elt Ideal) ((c.tc : Thread Cert.ConvIdeal.nD Cert.ConvIdeal.τ).loc Cert.ConvIdeal.main_v0_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_v0_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v56) = v0 c
          ∧ r.2.mem ((c.tc : Thread Cert.ConvRefIdeal.nD Cert.ConvRefIdeal.τ).loc Cert.ConvRefIdeal.main_v57) = v1 c
          ∧ r.2.mem ((c.tc : Thread Cert.ConvRefIdeal.nD Cert.ConvRefIdeal.τ).loc Cert.ConvRefIdeal.main_v58) = v2 c
          ∧ r.2.mem ((c.tc : Thread Cert.ConvRefIdeal.nD Cert.ConvRefIdeal.τ).loc Cert.ConvRefIdeal.main_v49) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_DwGateUp_DwGateUpIdeal : Prop :=
  True

def algebraic_DwGateUpIdeal_DwGateUpRefIdeal [hDwGateUpIdeal : Cert.DwGateUpIdeal.Facts] [hDwGateUpRefIdeal : Cert.DwGateUpRefIdeal.Facts] : Prop :=
  ∀ (m : (ℓ : Loc Cert.DwGateUpIdeal.nD Cert.DwGateUpIdeal.τ Cert.DwGateUpIdeal.sig) → Buf (Elt Ideal) ℓ) (g : Dev Cert.DwGateUpIdeal.nD → PrngReg)
    (m' : (ℓ : Loc Cert.DwGateUpRefIdeal.nD Cert.DwGateUpRefIdeal.τ Cert.DwGateUpRefIdeal.sig) → Buf (Elt Ideal) ℓ) (g' : Dev Cert.DwGateUpRefIdeal.nD → PrngReg), Pre_DwGateUpIdeal m →
    (∀ c : Dev Cert.DwGateUpIdeal.nD,
      m' ((c.tc : Thread Cert.DwGateUpRefIdeal.nD Cert.DwGateUpRefIdeal.τ).loc Cert.DwGateUpRefIdeal.main_arg0) = m ((c.tc : Thread Cert.DwGateUpIdeal.nD Cert.DwGateUpIdeal.τ).loc Cert.DwGateUpIdeal.main_arg0)
      ∧ m' ((c.tc : Thread Cert.DwGateUpRefIdeal.nD Cert.DwGateUpRefIdeal.τ).loc Cert.DwGateUpRefIdeal.main_arg1) = m ((c.tc : Thread Cert.DwGateUpIdeal.nD Cert.DwGateUpIdeal.τ).loc Cert.DwGateUpIdeal.main_arg1)) →
    ∃ (v0 : (c : Dev Cert.DwGateUpIdeal.nD) → Buf (Elt Ideal) ((c.tc : Thread Cert.DwGateUpIdeal.nD Cert.DwGateUpIdeal.τ).loc Cert.DwGateUpIdeal.main_v0)),
      θ_run (Cert.DwGateUpIdeal.defs (F := Ideal)) (onTc (τ := Cert.DwGateUpIdeal.τ) (Cert.DwGateUpIdeal.main (F := Ideal))) ⟨m, fun _ => 0, g⟩ (fun r => ∀ c : Dev Cert.DwGateUpIdeal.nD,
          r.2.mem ((c.tc : Thread Cert.DwGateUpIdeal.nD Cert.DwGateUpIdeal.τ).loc Cert.DwGateUpIdeal.main_v0) = v0 c
          ∧ r.2.mem ((c.tc : Thread Cert.DwGateUpIdeal.nD Cert.DwGateUpIdeal.τ).loc Cert.DwGateUpIdeal.main_arg0) = m ((c.tc : Thread Cert.DwGateUpIdeal.nD Cert.DwGateUpIdeal.τ).loc Cert.DwGateUpIdeal.main_arg0)
          ∧ r.2.mem ((c.tc : Thread Cert.DwGateUpIdeal.nD Cert.DwGateUpIdeal.τ).loc Cert.DwGateUpIdeal.main_arg1) = m ((c.tc : Thread Cert.DwGateUpIdeal.nD Cert.DwGateUpIdeal.τ).loc Cert.DwGateUpIdeal.main_arg1))
      ∧ θ_run (Cert.DwGateUpRefIdeal.defs (F := Ideal)) (onTc (τ := Cert.DwGateUpRefIdeal.τ) (Cert.DwGateUpRefIdeal.main (F := Ideal))) ⟨m', fun _ => 0, g'⟩ (fun r => ∀ c : Dev Cert.DwGateUpRefIdeal.nD,
          r.2.mem ((c.tc : Thread Cert.DwGateUpRefIdeal.nD Cert.DwGateUpRefIdeal.τ).loc Cert.DwGateUpRefIdeal.main_v5) = v0 c
          ∧ r.2.mem ((c.tc : Thread Cert.DwGateUpRefIdeal.nD Cert.DwGateUpRefIdeal.τ).loc Cert.DwGateUpRefIdeal.main_arg0) = m' ((c.tc : Thread Cert.DwGateUpRefIdeal.nD Cert.DwGateUpRefIdeal.τ).loc Cert.DwGateUpRefIdeal.main_arg0)
          ∧ r.2.mem ((c.tc : Thread Cert.DwGateUpRefIdeal.nD Cert.DwGateUpRefIdeal.τ).loc Cert.DwGateUpRefIdeal.main_arg1) = m' ((c.tc : Thread Cert.DwGateUpRefIdeal.nD Cert.DwGateUpRefIdeal.τ).loc Cert.DwGateUpRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v5) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwO_DwOIdeal : Prop :=
  True

def algebraic_DwOIdeal_DwORefIdeal [hDwOIdeal : Cert.DwOIdeal.Facts] [hDwORefIdeal : Cert.DwORefIdeal.Facts] : Prop :=
  ∀ (m : (ℓ : Loc Cert.DwOIdeal.nD Cert.DwOIdeal.τ Cert.DwOIdeal.sig) → Buf (Elt Ideal) ℓ) (g : Dev Cert.DwOIdeal.nD → PrngReg)
    (m' : (ℓ : Loc Cert.DwORefIdeal.nD Cert.DwORefIdeal.τ Cert.DwORefIdeal.sig) → Buf (Elt Ideal) ℓ) (g' : Dev Cert.DwORefIdeal.nD → PrngReg), Pre_DwOIdeal m →
    (∀ c : Dev Cert.DwOIdeal.nD,
      m' ((c.tc : Thread Cert.DwORefIdeal.nD Cert.DwORefIdeal.τ).loc Cert.DwORefIdeal.main_arg0) = m ((c.tc : Thread Cert.DwOIdeal.nD Cert.DwOIdeal.τ).loc Cert.DwOIdeal.main_arg0)
      ∧ m' ((c.tc : Thread Cert.DwORefIdeal.nD Cert.DwORefIdeal.τ).loc Cert.DwORefIdeal.main_arg1) = m ((c.tc : Thread Cert.DwOIdeal.nD Cert.DwOIdeal.τ).loc Cert.DwOIdeal.main_arg1)) →
    ∃ (v0 : (c : Dev Cert.DwOIdeal.nD) → Buf (Elt Ideal) ((c.tc : Thread Cert.DwOIdeal.nD Cert.DwOIdeal.τ).loc Cert.DwOIdeal.main_v0)),
      θ_run (Cert.DwOIdeal.defs (F := Ideal)) (onTc (τ := Cert.DwOIdeal.τ) (Cert.DwOIdeal.main (F := Ideal))) ⟨m, fun _ => 0, g⟩ (fun r => ∀ c : Dev Cert.DwOIdeal.nD,
          r.2.mem ((c.tc : Thread Cert.DwOIdeal.nD Cert.DwOIdeal.τ).loc Cert.DwOIdeal.main_v0) = v0 c
          ∧ r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
          ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ θ_run (Cert.DwORefIdeal.defs (F := Ideal)) (onTc (τ := Cert.DwORefIdeal.τ) (Cert.DwORefIdeal.main (F := Ideal))) ⟨m', fun _ => 0, g'⟩ (fun r => ∀ c : Dev Cert.DwORefIdeal.nD,
          r.2.mem ((c.tc : Thread Cert.DwORefIdeal.nD Cert.DwORefIdeal.τ).loc Cert.DwORefIdeal.main_v5) = v0 c
          ∧ r.2.mem ((c.tc : Thread Cert.DwORefIdeal.nD Cert.DwORefIdeal.τ).loc Cert.DwORefIdeal.main_arg0) = m' ((c.tc : Thread Cert.DwORefIdeal.nD Cert.DwORefIdeal.τ).loc Cert.DwORefIdeal.main_arg0)
          ∧ r.2.mem ((c.tc : Thread Cert.DwORefIdeal.nD Cert.DwORefIdeal.τ).loc Cert.DwORefIdeal.main_arg1) = m' ((c.tc : Thread Cert.DwORefIdeal.nD Cert.DwORefIdeal.τ).loc Cert.DwORefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v5) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DMixed_DMixedIdeal : Prop :=
  True

def algebraic_DMixedIdeal_DMixedRefIdeal [hDMixedIdeal : Cert.DMixedIdeal.Facts] [hDMixedRefIdeal : Cert.DMixedRefIdeal.Facts] : Prop :=
  ∀ (m : (ℓ : Loc Cert.DMixedIdeal.nD Cert.DMixedIdeal.τ Cert.DMixedIdeal.sig) → Buf (Elt Ideal) ℓ) (g : Dev Cert.DMixedIdeal.nD → PrngReg)
    (m' : (ℓ : Loc Cert.DMixedRefIdeal.nD Cert.DMixedRefIdeal.τ Cert.DMixedRefIdeal.sig) → Buf (Elt Ideal) ℓ) (g' : Dev Cert.DMixedRefIdeal.nD → PrngReg), Pre_DMixedIdeal m →
    (∀ c : Dev Cert.DMixedIdeal.nD,
      m' ((c.tc : Thread Cert.DMixedRefIdeal.nD Cert.DMixedRefIdeal.τ).loc Cert.DMixedRefIdeal.main_arg0) = m ((c.tc : Thread Cert.DMixedIdeal.nD Cert.DMixedIdeal.τ).loc Cert.DMixedIdeal.main_arg0)
      ∧ m' ((c.tc : Thread Cert.DMixedRefIdeal.nD Cert.DMixedRefIdeal.τ).loc Cert.DMixedRefIdeal.main_arg1) = m ((c.tc : Thread Cert.DMixedIdeal.nD Cert.DMixedIdeal.τ).loc Cert.DMixedIdeal.main_arg1)) →
    ∃ (v0 : (c : Dev Cert.DMixedIdeal.nD) → Buf (Elt Ideal) ((c.tc : Thread Cert.DMixedIdeal.nD Cert.DMixedIdeal.τ).loc Cert.DMixedIdeal.main_v0)),
      θ_run (Cert.DMixedIdeal.defs (F := Ideal)) (onTc (τ := Cert.DMixedIdeal.τ) (Cert.DMixedIdeal.main (F := Ideal))) ⟨m, fun _ => 0, g⟩ (fun r => ∀ c : Dev Cert.DMixedIdeal.nD,
          r.2.mem ((c.tc : Thread Cert.DMixedIdeal.nD Cert.DMixedIdeal.τ).loc Cert.DMixedIdeal.main_v0) = v0 c
          ∧ r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
          ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ θ_run (Cert.DMixedRefIdeal.defs (F := Ideal)) (onTc (τ := Cert.DMixedRefIdeal.τ) (Cert.DMixedRefIdeal.main (F := Ideal))) ⟨m', fun _ => 0, g'⟩ (fun r => ∀ c : Dev Cert.DMixedRefIdeal.nD,
          r.2.mem ((c.tc : Thread Cert.DMixedRefIdeal.nD Cert.DMixedRefIdeal.τ).loc Cert.DMixedRefIdeal.main_v4) = v0 c
          ∧ r.2.mem ((c.tc : Thread Cert.DMixedRefIdeal.nD Cert.DMixedRefIdeal.τ).loc Cert.DMixedRefIdeal.main_arg0) = m' ((c.tc : Thread Cert.DMixedRefIdeal.nD Cert.DMixedRefIdeal.τ).loc Cert.DMixedRefIdeal.main_arg0)
          ∧ r.2.mem ((c.tc : Thread Cert.DMixedRefIdeal.nD Cert.DMixedRefIdeal.τ).loc Cert.DMixedRefIdeal.main_arg1) = m' ((c.tc : Thread Cert.DMixedRefIdeal.nD Cert.DMixedRefIdeal.τ).loc Cert.DMixedRefIdeal.main_arg1))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)) →
    ∃ (v0 : (c : Dev Cert.DHIdeal.nD) → Buf (Elt Ideal) ((c.tc : Thread Cert.DHIdeal.nD Cert.DHIdeal.τ).loc Cert.DHIdeal.main_v0)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v0) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v4) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v3_0)) (v1 : (c : Dev Cert.GateUpIdeal.nD) → Buf (Elt Ideal) ((c.tc : Thread Cert.GateUpIdeal.nD Cert.GateUpIdeal.τ).loc Cert.GateUpIdeal.main_v3_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v3_0) = v0 c
          ∧ r.2.mem ((c.tc : Thread Cert.GateUpIdeal.nD Cert.GateUpIdeal.τ).loc Cert.GateUpIdeal.main_v3_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v6) = v0 c
          ∧ r.2.mem ((c.tc : Thread Cert.GateUpRefIdeal.nD Cert.GateUpRefIdeal.τ).loc Cert.GateUpRefIdeal.main_v11) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_DAct_DActIdeal : Prop :=
  True

def algebraic_DActIdeal_DActRefIdeal_pre_finite [hDActIdeal : Cert.DActIdeal.Facts] [hDActRefIdeal : Cert.DActRefIdeal.Facts] [hPre_finite : Cert.Pre_finite.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal_finite m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)) →
    ∃ (v0 : (c : Dev Cert.DActIdeal.nD) → Buf (Elt Ideal) ((c.tc : Thread Cert.DActIdeal.nD Cert.DActIdeal.τ).loc Cert.DActIdeal.main_v3)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v3) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v16) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2))

def Claim : Prop :=
  ∃ (hConv : Cert.Conv.Facts) (hConvIdeal : Cert.ConvIdeal.Facts) (hConvRefIdeal : Cert.ConvRefIdeal.Facts) (hDwGateUp : Cert.DwGateUp.Facts) (hDwGateUpIdeal : Cert.DwGateUpIdeal.Facts) (hDwGateUpRefIdeal : Cert.DwGateUpRefIdeal.Facts) (hDwDown : Cert.DwDown.Facts) (hDwDownIdeal : Cert.DwDownIdeal.Facts) (hDwDownRefIdeal : Cert.DwDownRefIdeal.Facts) (hDwO : Cert.DwO.Facts) (hDwOIdeal : Cert.DwOIdeal.Facts) (hDwORefIdeal : Cert.DwORefIdeal.Facts) (hDwIn : Cert.DwIn.Facts) (hDwInIdeal : Cert.DwInIdeal.Facts) (hDwInRefIdeal : Cert.DwInRefIdeal.Facts) (hDMixed : Cert.DMixed.Facts) (hDMixedIdeal : Cert.DMixedIdeal.Facts) (hDMixedRefIdeal : Cert.DMixedRefIdeal.Facts) (hDH : Cert.DH.Facts) (hDHIdeal : Cert.DHIdeal.Facts) (hDHRefIdeal : Cert.DHRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hDown : Cert.Down.Facts) (hDownIdeal : Cert.DownIdeal.Facts) (hDownRefIdeal : Cert.DownRefIdeal.Facts) (hGateUp : Cert.GateUp.Facts) (hGateUpIdeal : Cert.GateUpIdeal.Facts) (hGateUpRefIdeal : Cert.GateUpRefIdeal.Facts) (hDAct : Cert.DAct.Facts) (hDActIdeal : Cert.DActIdeal.Facts) (hDActRefIdeal : Cert.DActRefIdeal.Facts) (hPre_finite : Cert.Pre_finite.Facts),
    quiescent_Conv (hConv := hConv)
    ∧ quiescent_ConvIdeal (hConvIdeal := hConvIdeal)
    ∧ quiescent_ConvRefIdeal (hConvRefIdeal := hConvRefIdeal)
    ∧ quiescent_DwGateUp (hDwGateUp := hDwGateUp)
    ∧ quiescent_DwGateUpIdeal (hDwGateUpIdeal := hDwGateUpIdeal)
    ∧ quiescent_DwGateUpRefIdeal (hDwGateUpRefIdeal := hDwGateUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwO (hDwO := hDwO)
    ∧ quiescent_DwOIdeal (hDwOIdeal := hDwOIdeal)
    ∧ quiescent_DwORefIdeal (hDwORefIdeal := hDwORefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DMixed (hDMixed := hDMixed)
    ∧ quiescent_DMixedIdeal (hDMixedIdeal := hDMixedIdeal)
    ∧ quiescent_DMixedRefIdeal (hDMixedRefIdeal := hDMixedRefIdeal)
    ∧ quiescent_DH (hDH := hDH)
    ∧ quiescent_DHIdeal (hDHIdeal := hDHIdeal)
    ∧ quiescent_DHRefIdeal (hDHRefIdeal := hDHRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Down (hDown := hDown)
    ∧ quiescent_DownIdeal (hDownIdeal := hDownIdeal)
    ∧ quiescent_DownRefIdeal (hDownRefIdeal := hDownRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_DAct (hDAct := hDAct)
    ∧ quiescent_DActIdeal (hDActIdeal := hDActIdeal)
    ∧ quiescent_DActIdeal_pre_finite (hDActIdeal := hDActIdeal) (hPre_finite := hPre_finite)
    ∧ quiescent_DActRefIdeal (hDActRefIdeal := hDActRefIdeal)
    ∧ quiescent_DActRefIdeal_pre_finite (hDActRefIdeal := hDActRefIdeal) (hPre_finite := hPre_finite)
    ∧ preserves_Conv_ConvIdeal
    ∧ algebraic_ConvIdeal_ConvRefIdeal (hConvIdeal := hConvIdeal) (hConvRefIdeal := hConvRefIdeal)
    ∧ preserves_DwGateUp_DwGateUpIdeal
    ∧ algebraic_DwGateUpIdeal_DwGateUpRefIdeal (hDwGateUpIdeal := hDwGateUpIdeal) (hDwGateUpRefIdeal := hDwGateUpRefIdeal)
    ∧ preserves_DwDown_DwDownIdeal
    ∧ algebraic_DwDownIdeal_DwDownRefIdeal (hDwDownIdeal := hDwDownIdeal) (hDwDownRefIdeal := hDwDownRefIdeal)
    ∧ preserves_DwO_DwOIdeal
    ∧ algebraic_DwOIdeal_DwORefIdeal (hDwOIdeal := hDwOIdeal) (hDwORefIdeal := hDwORefIdeal)
    ∧ preserves_DwIn_DwInIdeal
    ∧ algebraic_DwInIdeal_DwInRefIdeal (hDwInIdeal := hDwInIdeal) (hDwInRefIdeal := hDwInRefIdeal)
    ∧ preserves_DMixed_DMixedIdeal
    ∧ algebraic_DMixedIdeal_DMixedRefIdeal (hDMixedIdeal := hDMixedIdeal) (hDMixedRefIdeal := hDMixedRefIdeal)
    ∧ preserves_DH_DHIdeal
    ∧ algebraic_DHIdeal_DHRefIdeal (hDHIdeal := hDHIdeal) (hDHRefIdeal := hDHRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Down_DownIdeal
    ∧ algebraic_DownIdeal_DownRefIdeal (hDownIdeal := hDownIdeal) (hDownRefIdeal := hDownRefIdeal)
    ∧ preserves_GateUp_GateUpIdeal
    ∧ algebraic_GateUpIdeal_GateUpRefIdeal (hGateUpIdeal := hGateUpIdeal) (hGateUpRefIdeal := hGateUpRefIdeal)
    ∧ preserves_DAct_DActIdeal
    ∧ algebraic_DActIdeal_DActRefIdeal_pre_finite (hDActIdeal := hDActIdeal) (hDActRefIdeal := hDActRefIdeal) (hPre_finite := hPre_finite)
-- ==== Pre_finite.lean ====
abbrev S4096x1024 : Shape := ⟨2, ![4096, 1024]⟩
abbrev S2816x1024 : Shape := ⟨2, ![2816, 1024]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn {F : FTy → Type} [FloatOps F] (main_arg0 : FVec F S4096x1024 .bf16) (main_arg1 : FVec F S2816x1024 .bf16) (main_arg2 : FVec F S4096x5632 .bf16) : IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2816x1024 .bf16 := Host.absf main_arg1
  let main_cst_0 : FVec F S_ .bf16 := constant S_ .bf16 0x7F80#16
  let main_v5 : FVec F S2816x1024 .bf16 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x5632 .bf16 := Host.absf main_arg2
  let main_cst_2 : FVec F S_ .bf16 := constant S_ .bf16 0x7F80#16
  let main_v10 : FVec F S4096x5632 .bf16 := broadcastInDim S4096x5632 ![] bcast_S_S4096x5632 main_cst_2
  let main_v11 : IVec S4096x5632 1 := cmpf .olt main_v9 main_v10
  let main_c_3 : IVec S_ 1 := constantI S_ 1 1#1
  let main_v12 : IVec S_ 1 := (fun x v => Host.reduce IntOp.andi x v reducesTo_S4096x5632_S_d0_1 h_S_) main_v11 main_c_3
  let main_v13 : IVec S_ 1 := andi main_v8 main_v12
  main_v13
-- ==== Conv.lean ====
abbrev S4096x256 : Shape := ⟨2, ![4096, 256]⟩
abbrev S4096x2688 : Shape := ⟨2, ![4096, 2688]⟩
abbrev S3x256 : Shape := ⟨2, ![3, 256]⟩
abbrev S4096x128 : Shape := ⟨2, ![4096, 128]⟩
abbrev S3x128 : Shape := ⟨2, ![3, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S4096x256, .f32⟩
  | .hbm, ⟨1, _⟩ => ⟨S4096x2688, .f32⟩
  | .hbm, ⟨2, _⟩ => ⟨S3x256, .f32⟩
  | .hbm, ⟨3, _⟩ => ⟨S4096x256, .bf16⟩
  | .hbm, ⟨4, _⟩ => ⟨S4096x256, .bf16⟩
  | .hbm, ⟨5, _⟩ => ⟨S4096x256, .bf16⟩
  | .hbm, ⟨6, _⟩ => ⟨S3x256, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S3x128, .f32⟩
  | .local _ .vmem, ⟨9, _⟩ => ⟨S3x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S3x128, .f32⟩
  | .local _ .vmem, ⟨17, _⟩ => ⟨S3x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvRefIdeal.lean ====
abbrev S4096x256 : Shape := ⟨2, ![4096, 256]⟩
abbrev S4096x2688 : Shape := ⟨2, ![4096, 2688]⟩
abbrev S3x256 : Shape := ⟨2, ![3, 256]⟩
abbrev S_ : Shape := ⟨0, ![]⟩
abbrev S2x256 : Shape := ⟨2, ![2, 256]⟩
abbrev S4094x256 : Shape := ⟨2, ![4094, 256]⟩
abbrev S1x256 : Shape := ⟨2, ![1, 256]⟩
abbrev S4095x256 : Shape := ⟨2, ![4095, 256]⟩
abbrev S256 : Shape := ⟨1, ![256]⟩

abbrev nBuf : Space → Nat
  | .hbm => 74
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2688, .f32⟩
  | .hbm, ⟨2, _⟩ => ⟨S3x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S_, .f32⟩
  | .hbm, ⟨8, _⟩ => ⟨S2x256, .f32⟩
  | .hbm, ⟨9, _⟩ => ⟨S4094x256, .f32⟩
  | .hbm, ⟨10, _⟩ => ⟨S4096x256, .f32⟩
  | .hbm, ⟨11, _⟩ => ⟨S_, .f32⟩
  | .hbm, ⟨12, _⟩ => ⟨S2x256, .f32⟩
  | .hbm, ⟨13, _⟩ => ⟨S1x256, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S1x256, .f32⟩
  | .hbm, ⟨18, _⟩ => ⟨S4095x256, .f32⟩
  | .hbm, ⟨19, _⟩ => ⟨S4096x256, .f32⟩
  | .hbm, ⟨20, _⟩ => ⟨S_, .f32⟩
  | .hbm, ⟨21, _⟩ => ⟨S1x256, .f32⟩
  | .hbm, ⟨22, _⟩ => ⟨S1x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S1x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S256, .f32⟩
  | .hbm, ⟨36, _⟩ => ⟨S1x256, .f32⟩
  | .hbm, ⟨37, _⟩ => ⟨S4096x256, .f32⟩
  | .hbm, ⟨38, _⟩ => ⟨S4096x256, .f32⟩
  | .hbm, ⟨39, _⟩ => ⟨S_, .f32⟩
  | .hbm, ⟨40, _⟩ => ⟨S3x256, .f32⟩
  | .hbm, ⟨41, _⟩ => ⟨S4096x256, .f32⟩
  | .hbm, ⟨42, _⟩ => ⟨S_, .f32⟩
  | .hbm, ⟨43, _⟩ => ⟨S256, .f32⟩
  | .hbm, ⟨44, _⟩ => ⟨S1x256, .f32⟩
  | .hbm, ⟨45, _⟩ => ⟨S4096x256, .f32⟩
  | .hbm, ⟨46, _⟩ => ⟨S4096x256, .f32⟩
  | .hbm, ⟨47, _⟩ => ⟨S_, .f32⟩
  | .hbm, ⟨48, _⟩ => ⟨S3x256, .f32⟩
  | .hbm, ⟨49, _⟩ => ⟨S3x256, .f32⟩
  | .hbm, ⟨50, _⟩ => ⟨S1x256, .f32⟩
  | .hbm, ⟨51, _⟩ => ⟨S4095x256, .f32⟩
  | .hbm, ⟨52, _⟩ => ⟨S_, .f32⟩
  | .hbm, ⟨53, _⟩ => ⟨S4096x256, .f32⟩
  | .hbm, ⟨54, _⟩ => ⟨S4096x256, .f32⟩
  | .hbm, ⟨55, _⟩ => ⟨S4096x256, .f32⟩
  | .hbm, ⟨56, _⟩ => ⟨S_, .f32⟩
  | .hbm, ⟨57, _⟩ => ⟨S256, .f32⟩
  | .hbm, ⟨58, _⟩ => ⟨S1x256, .f32⟩
  | .hbm, ⟨59, _⟩ => ⟨S4096x256, .f32⟩
  | .hbm, ⟨60, _⟩ => ⟨S4096x256, .f32⟩
  | .hbm, ⟨61, _⟩ => ⟨S_, .f32⟩
  | .hbm, ⟨62, _⟩ => ⟨S3x256, .f32⟩
  | .hbm, ⟨63, _⟩ => ⟨S3x256, .f32⟩
  | .hbm, ⟨64, _⟩ => ⟨S2x256, .f32⟩
  | .hbm, ⟨65, _⟩ => ⟨S4094x256, .f32⟩
  | .hbm, ⟨66, _⟩ => ⟨S_, .f32⟩
  | .hbm, ⟨67, _⟩ => ⟨S4096x256, .f32⟩
  | .hbm, ⟨68, _⟩ => ⟨S4096x256, .f32⟩
  | .hbm, ⟨69, _⟩ => ⟨S4096x256, .f32⟩
  | .hbm, ⟨70, _⟩ => ⟨S4096x256, .f32⟩
  | .hbm, ⟨71, _⟩ => ⟨S4096x256, .bf16⟩
  | .hbm, ⟨72, _⟩ => ⟨S4096x256, .bf16⟩
  | .hbm, ⟨73, _⟩ => ⟨S4096x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== DwGateUp.lean ====
abbrev S4096x1024 : Shape := ⟨2, ![4096, 1024]⟩
abbrev S4096x5632 : Shape := ⟨2, ![4096, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateUpRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwO.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwORefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwIn.lean ====
abbrev S4096x1024 : Shape := ⟨2, ![4096, 1024]⟩
abbrev S4096x2688 : Shape := ⟨2, ![4096, 2688]⟩
abbrev S1024x2688 : Shape := ⟨2, ![1024, 2688]⟩
abbrev S1024x1024 : Shape := ⟨2, ![1024, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2688, .bf16⟩
  | .hbm, ⟨2, _⟩ => ⟨S1024x2688, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x1024 : Shape := ⟨2, ![4096, 1024]⟩
abbrev S4096x2688 : Shape := ⟨2, ![4096, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2688, .bf16⟩
  | .hbm, ⟨2, _⟩ => ⟨S_, .f32⟩
  | .hbm, ⟨3, _⟩ => ⟨S1024x2688, .f32⟩
  | .hbm, ⟨4, _⟩ => ⟨S4096x1024, .f32⟩
  | .hbm, ⟨5, _⟩ => ⟨S4096x2688, .f32⟩
  | .hbm, ⟨6, _⟩ => ⟨S4096x2688, .f32⟩
  | .hbm, ⟨7, _⟩ => ⟨S2688x1024, .f32⟩
  | .hbm, ⟨8, _⟩ => ⟨S1024x2688, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DMixed.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixedRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DH.lean ====
abbrev S4096x2688 : Shape := ⟨2, ![4096, 2688]⟩
abbrev S1024x2688 : Shape := ⟨2, ![1024, 2688]⟩
abbrev S4096x1024 : Shape := ⟨2, ![4096, 1024]⟩
abbrev S1024x896 : Shape := ⟨2, ![1024, 896]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2688, .bf16⟩
  | .hbm, ⟨1, _⟩ => ⟨S1024x2688, .bf16⟩
  | .hbm, ⟨2, _⟩ => ⟨S4096x1024, .f32⟩
  | .local _ .vmem, ⟨0, _⟩ => ⟨S1024x896, .bf16⟩
  | .local _ .vmem, ⟨1, _⟩ => ⟨S1024x896, .bf16⟩
  | .local _ .vmem, ⟨2, _⟩ => ⟨S1024x896, .bf16⟩
  | .local _ .vmem, ⟨3, _⟩ => ⟨S1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHRefIdeal.lean ====
abbrev S4096x2688 : Shape := ⟨2, ![4096, 2688]⟩
abbrev S1024x2688 : Shape := ⟨2, ![1024, 2688]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2688, .bf16⟩
  | .hbm, ⟨1, _⟩ => ⟨S1024x2688, .bf16⟩
  | .hbm, ⟨2, _⟩ => ⟨S_, .f32⟩
  | .hbm, ⟨3, _⟩ => ⟨S4096x1024, .f32⟩
  | .hbm, ⟨4, _⟩ => ⟨S1024x2688, .f32⟩
  | .hbm, ⟨5, _⟩ => ⟨S4096x2688, .f32⟩
  | .hbm, ⟨6, _⟩ => ⟨S4096x2688, .f32⟩
  | .hbm, ⟨7, _⟩ => ⟨S4096x1024, .f32⟩
  | _, _ => ⟨S4096x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProj.lean ====
abbrev S4096x1024 : Shape := ⟨2, ![4096, 1024]⟩
abbrev S1024x2688 : Shape := ⟨2, ![1024, 2688]⟩
abbrev S4096x2688 : Shape := ⟨2, ![4096, 2688]⟩
abbrev S1024x1024 : Shape := ⟨2, ![1024, 1024]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2688, .bf16⟩
  | .hbm, ⟨2, _⟩ => ⟨S4096x2688, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x1024 : Shape := ⟨2, ![4096, 1024]⟩
abbrev S1024x2688 : Shape := ⟨2, ![1024, 2688]⟩
abbrev S4096x2688 : Shape := ⟨2, ![4096, 2688]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2688, .bf16⟩
  | .hbm, ⟨2, _⟩ => ⟨S4096x1024, .f32⟩
  | .hbm, ⟨3, _⟩ => ⟨S1024x2688, .f32⟩
  | .hbm, ⟨4, _⟩ => ⟨S4096x2688, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateUp.lean ====
abbrev S4096x1024 : Shape := ⟨2, ![4096, 1024]⟩
abbrev S1024x5632 : Shape := ⟨2, ![1024, 5632]⟩
abbrev S1024x2x11x256 : Shape := ⟨4, ![1024, 2, 11, 256]⟩
abbrev S1024x11x2x256 : Shape := ⟨4, ![1024, 11, 2, 256]⟩
abbrev S4096x5632 : Shape := ⟨2, ![4096, 5632]⟩
abbrev S4096x2816 : Shape := ⟨2, ![4096, 2816]⟩
abbrev S2048x1024 : Shape := ⟨2, ![2048, 1024]⟩
abbrev S1024x512 : Shape := ⟨2, ![1024, 512]⟩
abbrev S2048x512 : Shape := ⟨2, ![2048, 512]⟩
abbrev S2048x256 : Shape := ⟨2, ![2048, 256]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S1024x2x11x256, .bf16⟩
  | .hbm, ⟨3, _⟩ => ⟨S1024x11x2x256, .bf16⟩
  | .hbm, ⟨4, _⟩ => ⟨S1024x5632, .bf16⟩
  | .hbm, ⟨5, _⟩ => ⟨S4096x5632, .bf16⟩
  | .hbm, ⟨6, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x256, .bf16⟩
  | .local _ .vmem, ⟨7, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateUpRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2x11x256 : Shape := ⟨4, ![4096, 2, 11, 256]⟩
abbrev S4096x11x2x256 : Shape := ⟨4, ![4096, 11, 2, 256]⟩
abbrev S4096x2816 : Shape := ⟨2, ![4096, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2x11x256, .f32⟩
  | .hbm, ⟨6, _⟩ => ⟨S4096x11x2x256, .f32⟩
  | .hbm, ⟨7, _⟩ => ⟨S4096x5632, .f32⟩
  | .hbm, ⟨8, _⟩ => ⟨S4096x5632, .bf16⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== DAct.lean ====
abbrev S4096x1024 : Shape := ⟨2, ![4096, 1024]⟩
abbrev S2816x1024 : Shape := ⟨2, ![2816, 1024]⟩
abbrev S4096x5632 : Shape := ⟨2, ![4096, 5632]⟩
abbrev S4096x2x11x256 : Shape := ⟨4, ![4096, 2, 11, 256]⟩
abbrev S4096x11x2x256 : Shape := ⟨4, ![4096, 11, 2, 256]⟩
abbrev S2048x1024 : Shape := ⟨2, ![2048, 1024]⟩
abbrev S256x1024 : Shape := ⟨2, ![256, 1024]⟩
abbrev S2048x512 : Shape := ⟨2, ![2048, 512]⟩
abbrev S2048x256 : Shape := ⟨2, ![2048, 256]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S4096x2x11x256, .bf16⟩
  | .hbm, ⟨4, _⟩ => ⟨S4096x11x2x256, .bf16⟩
  | .hbm, ⟨5, _⟩ => ⟨S4096x5632, .bf16⟩
  | .hbm, ⟨6, _⟩ => ⟨S4096x5632, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DActRefIdeal.lean ====
abbrev S4096x1024 : Shape := ⟨2, ![4096, 1024]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S4096x2x11x256 : Shape := ⟨4, ![4096, 2, 11, 256]⟩
abbrev S4096x11x2x256 : Shape := ⟨4, ![4096, 11, 2, 256]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x5632, .f32⟩
  | .hbm, ⟨31, _⟩ => ⟨S4096x2x11x256, .f32⟩
  | .hbm, ⟨32, _⟩ => ⟨S4096x11x2x256, .f32⟩
  | .hbm, ⟨33, _⟩ => ⟨S4096x5632, .f32⟩
  | .hbm, ⟨34, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]
-- ==== Proof.Conv.lean ====
module

public import proofs.«01_k».proof.Proof.Gen.ConvIdeal.Value
public import proofs.«01_k».proof.Proof.Gen.ConvRefIdeal.Run
public import Idealize.ShloMosaic.Lib.Pipeline.ValueKit
public import Idealize.ShloMosaic.Lib.Pointwise

@[expose] public section

set_option maxRecDepth 16384

noncomputable section

namespace Cert.ConvIdeal.Conv
open Cert.ConvRefIdeal (S1x256 S2x256 S_ S4094x256 S4095x256)
open Cert.ConvRefIdeal.Gen

open Cert.ConvIdeal Cert.ConvIdeal.Gen Idealize.ShloMosaic Idealize.ShloMosaic.TcCoe Idealize.SL.Sem
open Idealize.ShloMosaic.Pipeline (Dat)

/-- A column moved `k` rows down, zeros above. -/
def down (k : ℕ) (f : Fin 4096 → EReal) (t : Fin 4096) : EReal := if t.val < k then 0 else f ⟨t.val - k, by omega⟩

/-- A column moved `k` rows up, zeros below. -/
def up (k : ℕ) (f : Fin 4096 → EReal) (t : Fin 4096) : EReal := if h : k + t.val < 4096 then f ⟨k + t.val, h⟩ else 0

/-- The comparison of a row number with a small constant, as a condition on numbers. -/
theorem sel_ge (t : Fin 4096) (k : ℕ) (hk : k < 4096) (x y : EReal) :
    Scalar.select (IntOp.cmpi CmpIPredicate.sge (BitVec.ofNat 32 t.val) (BitVec.ofNat 32 k)) x y = if t.val < k then y else x := by
  have ht := t.isLt
  rw [WordCmp.cmpi_sge_ofNat (by omega) (by omega), WordCmp.select_decide]
  by_cases h : t.val < k
  · rw [if_pos h, if_neg (by omega)]
  · rw [if_neg h, if_pos (by omega)]

/-- The same for the opposite comparison. -/
theorem sel_lt (t : Fin 4096) (k : ℕ) (hk : k < 4096) (x y : EReal) :
    Scalar.select (IntOp.cmpi CmpIPredicate.slt (BitVec.ofNat 32 t.val) (BitVec.ofNat 32 k)) x y = if t.val < k then x else y := by
  have ht := t.isLt
  rw [WordCmp.cmpi_slt_ofNat (by omega) (by omega), WordCmp.select_decide]

/-- A block with its rows rotated by `n`. -/
def rot (n : ℕ) (x : FVec Ideal S4096x128 .f32) : FVec Ideal S4096x128 .f32 :=
  fun j => x (ix2 ⟨((j 0).val + 4096 - n) % 4096, Nat.mod_lt _ (by decide)⟩ (j 1))

theorem rotate_eq (n : ℕ) (hn : n < 4096) (x : FVec Ideal S4096x128 .f32) (h) :
    dynamicRotate 0 (BitVec.ofNat 32 n) none x h = rot n x := by
  funext j
  unfold dynamicRotate rot
  refine congrArg x (funext fun b => ?_)
  have h1 : (BitVec.ofNat 32 n).toNat = n := by simp; omega
  fin_cases b
  · refine Fin.ext ?_
    show ((j 0).val + 4096 - ((BitVec.ofNat 32 n).toNat + 0) % 4096) % 4096 = ((j 0).val + 4096 - n) % 4096
    have h2 : ((BitVec.ofNat 32 n).toNat + 0) % 4096 = n := by omega
    omega
  · rfl

/-- The gradient of the outer gate, one column. -/
def fGb (dy gc u : Fin 4096 → EReal) (w0 w1 w2 : EReal) (t : Fin 4096) : EReal :=
  dy t * (w2 * (gc t * u t) + w1 * down 1 (fun s => gc s * u s) t + w0 * down 2 (fun s => gc s * u s) t)

/-- The gradient of the convolution's input, one column. -/
def fZ (dy gb : Fin 4096 → EReal) (w0 w1 w2 : EReal) (t : Fin 4096) : EReal :=
  w2 * (dy t * gb t) + w1 * up 1 (fun s => dy s * gb s) t + w0 * up 2 (fun s => dy s * gb s) t

/-- The gradient of the three taps, one column. -/
def fW (dy gb gc u : Fin 4096 → EReal) (r : ℕ) : EReal :=
  if r = 0 then ∑ t, (dy t * gb t) * down 2 (fun s => gc s * u s) t
  else if r = 1 then ∑ t, (dy t * gb t) * down 1 (fun s => gc s * u s) t
  else ∑ t, (dy t * gb t) * (gc t * u t)

theorem down_rot (k : ℕ) (hk : k < 4096) (f : Fin 4096 → EReal) (t : Fin 4096) (x : EReal) (h) :
    (if t.val < k then 0 else x * f ⟨(t.val + 4096 - k) % 4096, h⟩) = x * down k f t := by
  have ht := t.isLt
  unfold down
  by_cases hl : t.val < k
  · rw [if_pos hl, if_pos hl, mul_zero]
  · rw [if_neg hl, if_neg hl]
    exact congrArg (x * f ·) (Fin.ext (by show (t.val + 4096 - k) % 4096 = t.val - k; omega))

theorem up_rot (k : ℕ) (hk : k ≤ 4096) (f : Fin 4096 → EReal) (t : Fin 4096) (x : EReal) (h) :
    (if t.val < 4096 - k then x * f ⟨(t.val + 4096 - (4096 - k)) % 4096, h⟩ else 0) = x * up k f t := by
  have ht := t.isLt
  unfold up
  by_cases hl : k + t.val < 4096
  · rw [if_pos (by omega), dif_pos hl]
    exact congrArg (x * f ·) (Fin.ext (by show (t.val + 4096 - (4096 - k)) % 4096 = k + t.val; omega))
  · rw [if_neg (by omega), dif_neg hl, mul_zero]

theorem z1_at (a b : Vec Ideal S4096x128 .f32) (t : Fin 4096) (k : Fin 128) :
    k0_pay3 a b (ix2 t k) = down 1 (fun s => a (ix2 s k) * b (ix2 s k)) t := by
  pointwise [k0_pay3, k0_pay2]
  rw [sel_ge t 1 (by decide)]
  have := down_rot 1 (by decide) (fun s => a (ix2 s k) * b (ix2 s k)) t 1 (Nat.mod_lt _ (by decide))
  rw [one_mul, one_mul] at this
  exact this

theorem z2_at (a b : Vec Ideal S4096x128 .f32) (t : Fin 4096) (k : Fin 128) :
    k0_pay4 a b (ix2 t k) = down 2 (fun s => a (ix2 s k) * b (ix2 s k)) t := by
  pointwise [k0_pay4, k0_pay2]
  rw [sel_ge t 2 (by decide)]
  have := down_rot 2 (by decide) (fun s => a (ix2 s k) * b (ix2 s k)) t 1 (Nat.mod_lt _ (by decide))
  rw [one_mul, one_mul] at this
  exact this

theorem pay_gb (v0 v1 v2 : Vec Ideal S1x128 .f32) (v3 v4 v5 : Vec Ideal S4096x128 .f32) (t : Fin 4096) (k : Fin 128) :
    k0_pay5 v0 v1 v2 v3 v4 v5 (ix2 t k)
      = fGb (fun s => v5 (ix2 s k)) (fun s => v3 (ix2 s k)) (fun s => v4 (ix2 s k)) (v0 (ix2 0 k)) (v1 (ix2 0 k)) (v2 (ix2 0 k)) t := by
  pointwise [k0_pay5, k0_pay2, k0_pay3, k0_pay4]
  rw [sel_ge t 1 (by decide), sel_ge t 2 (by decide)]
  rw [down_rot 1 (by decide) (fun s => v3 (ix2 s k) * v4 (ix2 s k)) t, down_rot 2 (by decide) (fun s => v3 (ix2 s k) * v4 (ix2 s k)) t]
  rfl

theorem pay_z (v0 v1 v2 : Vec Ideal S1x128 .f32) (v5 v30 : Vec Ideal S4096x128 .f32) (t : Fin 4096) (k : Fin 128) :
    k0_pay8 v0 v1 (k0_pay6 v5 v30) (k0_pay7 v2 v5 v30) (iota .tc S4096x128 32 [0] iota_S4096x128_d0_w32) 4095#32 (ix2 t k)
      = fZ (fun s => v5 (ix2 s k)) (fun s => v30 (ix2 s k)) (v0 (ix2 0 k)) (v1 (ix2 0 k)) (v2 (ix2 0 k)) t := by
  unfold k0_pay8
  rw [rotate_eq 4095 (by decide), rotate_eq 4094 (by decide)]
  pointwise [k0_pay7, k0_pay6]
  rw [sel_lt t 4095 (by decide), sel_lt t 4094 (by decide)]
  have e1 := up_rot 1 (by decide) (fun s => v5 (ix2 s k) * v30 (ix2 s k)) t (v1 (ix2 0 k)) (Nat.mod_lt _ (by decide))
  have e2 := up_rot 2 (by decide) (fun s => v5 (ix2 s k) * v30 (ix2 s k)) t (v0 (ix2 0 k)) (Nat.mod_lt _ (by decide))
  exact congrArg₂ (· + ·) (congrArg₂ (· + ·) rfl e1) e2

theorem pay_gc (v0 v1 v2 : Vec Ideal S1x128 .f32) (v5 v30 v4 : Vec Ideal S4096x128 .f32) (t : Fin 4096) (k : Fin 128) :
    k0_pay9 v0 v1 v4 (k0_pay6 v5 v30) (k0_pay7 v2 v5 v30) (iota .tc S4096x128 32 [0] iota_S4096x128_d0_w32) 4095#32 (ix2 t k)
      = fZ (fun s => v5 (ix2 s k)) (fun s => v30 (ix2 s k)) (v0 (ix2 0 k)) (v1 (ix2 0 k)) (v2 (ix2 0 k)) t * v4 (ix2 t k) :=
  congrArg (· * v4 (ix2 t k)) (pay_z v0 v1 v2 v5 v30 t k)

theorem pay_u (v0 v1 v2 : Vec Ideal S1x128 .f32) (v5 v30 v3 : Vec Ideal S4096x128 .f32) (t : Fin 4096) (k : Fin 128) :
    k0_pay10 v0 v1 v3 (k0_pay6 v5 v30) (k0_pay7 v2 v5 v30) (iota .tc S4096x128 32 [0] iota_S4096x128_d0_w32) 4095#32 (ix2 t k)
      = fZ (fun s => v5 (ix2 s k)) (fun s => v30 (ix2 s k)) (v0 (ix2 0 k)) (v1 (ix2 0 k)) (v2 (ix2 0 k)) t * v3 (ix2 t k) :=
  congrArg (· * v3 (ix2 t k)) (pay_z v0 v1 v2 v5 v30 t k)

theorem pay_w (v3 v4 v5 v30 : Vec Ideal S4096x128 .f32) (r : Fin 3) (k : Fin 128) :
    k0_pay1 k0_pay11 (k0_pay12 (k0_pay2 v3 v4) (k0_pay3 v3 v4) (k0_pay6 v5 v30)) (k0_pay13 (k0_pay4 v3 v4) (k0_pay6 v5 v30)) (ix2 r k)
      = fW (fun s => v5 (ix2 s k)) (fun s => v30 (ix2 s k)) (fun s => v3 (ix2 s k)) (fun s => v4 (ix2 s k)) r.val := by
  have hr := r.isLt
  pointwise [k0_pay1, k0_pay11, k0_pay12, k0_pay13]
  rw [WordCmp.cmpi_eq_ofNat (by omega) (by omega), WordCmp.select_decide, WordCmp.cmpi_eq_ofNat (by omega) (by omega), WordCmp.select_decide]
  simp only [z1_at, z2_at]
  rfl

/-- The gradient of the outer gate, as the kernel leaves it and the reference states it. -/
def GGb (X0 : FVec Ideal S4096x256 .f32) (X1 : FVec Ideal S4096x2688 .f32) (X2 : FVec Ideal S3x256 .f32) : FVec Ideal S4096x256 .bf16 :=
  fun i => fGb (fun s => X0 (ix2 s (i 1))) (fun s => X1 (ix2 s ⟨1024 + (i 1).val, by have := (i 1).isLt; simp at this; omega⟩)) (fun s => X1 (ix2 s ⟨1280 + (i 1).val, by have := (i 1).isLt; simp at this; omega⟩)) (X2 (ix2 0 (i 1))) (X2 (ix2 1 (i 1))) (X2 (ix2 2 (i 1))) (i 0)

/-- The gradient of the inner gate. -/
def GGc (X0 : FVec Ideal S4096x256 .f32) (X1 : FVec Ideal S4096x2688 .f32) (X2 : FVec Ideal S3x256 .f32) : FVec Ideal S4096x256 .bf16 :=
  fun i => fZ (fun s => X0 (ix2 s (i 1))) (fun s => X1 (ix2 s ⟨768 + (i 1).val, by have := (i 1).isLt; simp at this; omega⟩)) (X2 (ix2 0 (i 1))) (X2 (ix2 1 (i 1))) (X2 (ix2 2 (i 1))) (i 0) * (fun s => X1 (ix2 s ⟨1280 + (i 1).val, by have := (i 1).isLt; simp at this; omega⟩)) (i 0)

/-- The gradient of the convolved values. -/
def GU (X0 : FVec Ideal S4096x256 .f32) (X1 : FVec Ideal S4096x2688 .f32) (X2 : FVec Ideal S3x256 .f32) : FVec Ideal S4096x256 .bf16 :=
  fun i => fZ (fun s => X0 (ix2 s (i 1))) (fun s => X1 (ix2 s ⟨768 + (i 1).val, by have := (i 1).isLt; simp at this; omega⟩)) (X2 (ix2 0 (i 1))) (X2 (ix2 1 (i 1))) (X2 (ix2 2 (i 1))) (i 0) * (fun s => X1 (ix2 s ⟨1024 + (i 1).val, by have := (i 1).isLt; simp at this; omega⟩)) (i 0)

/-- The gradient of the taps. -/
def GW (X0 : FVec Ideal S4096x256 .f32) (X1 : FVec Ideal S4096x2688 .f32) (X2 : FVec Ideal S3x256 .f32) : FVec Ideal S3x256 .f32 :=
  fun i => fW (fun s => X0 (ix2 s (i 1))) (fun s => X1 (ix2 s ⟨768 + (i 1).val, by have := (i 1).isLt; simp at this; omega⟩)) (fun s => X1 (ix2 s ⟨1024 + (i 1).val, by have := (i 1).isLt; simp at this; omega⟩)) (fun s => X1 (ix2 s ⟨1280 + (i 1).val, by have := (i 1).isLt; simp at this; omega⟩)) (i 0).val

section
variable (m : (ℓ : Loc nD τ sig) → Buf (Elt Ideal) ℓ)

/-- Where each window's block sits at each of the two grid points. -/
theorem idx : ∀ t : Fin cfg0.N, win0_0.index t = ![0, t.val] ∧ win0_1.index t = ![0, 6 + t.val] ∧ win0_2.index t = ![0, 8 + t.val] ∧ win0_3.index t = ![0, 10 + t.val]
    ∧ win0_4.index t = ![0, t.val] ∧ win0_5.index t = ![0, t.val] ∧ win0_6.index t = ![0, t.val] ∧ win0_7.index t = ![0, t.val] ∧ win0_8.index t = ![0, t.val] :=
  (by decide +kernel : ∀ t : Fin grid0.N, _)

theorem final5 (c : Dev nD) : (dats m 0 c).arrAt 5 (cfgs 0).N = GGb (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  refine ((congrArg _ (eq_ix2 y)).trans (pay_gb _ _ _ _ _ _ _ _)).trans ?_
  unfold GGb
  congr 1 <;> first | (funext s; blk_point [iblk, V, idx t]; done) | (refine Fin.ext ?_; blk_simp [idx t]; done) | (blk_point [iblk, V, idx t]; done)

theorem final6 (c : Dev nD) : (dats m 0 c).arrAt 6 (cfgs 0).N = GGc (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; unfold_out out0_6; frame_out
  refine ((congrArg _ (eq_ix2 y)).trans (pay_gc _ _ _ _ _ _ _ _)).trans ?_
  unfold GGc
  refine congrArg₂ (· * ·) ?_ ?_
  · congr 1 <;> first | (funext s; blk_point [iblk, V, idx t]; done) | (refine Fin.ext ?_; blk_simp [idx t]; done) | (blk_point [iblk, V, idx t]; done)
  · blk_ext [iblk, V, idx t]

theorem final7 (c : Dev nD) : (dats m 0 c).arrAt 7 (cfgs 0).N = GU (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; unfold_out out0_7; frame_out
  refine ((congrArg _ (eq_ix2 y)).trans (pay_u _ _ _ _ _ _ _ _)).trans ?_
  unfold GU
  refine congrArg₂ (· * ·) ?_ ?_
  · congr 1 <;> first | (funext s; blk_point [iblk, V, idx t]; done) | (refine Fin.ext ?_; blk_simp [idx t]; done) | (blk_point [iblk, V, idx t]; done)
  · blk_ext [iblk, V, idx t]

theorem final8 (c : Dev nD) : (dats m 0 c).arrAt 8 (cfgs 0).N = GW (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]; unfold_out out0_8; frame_out
  refine ((congrArg _ (eq_ix2 y)).trans (pay_w _ _ _ _ _ _)).trans ?_
  unfold GW
  congr 1 <;> first | (funext s; blk_point [iblk, V, idx t]; done) | (blk_simp [idx t]; done) | (blk_point [iblk, V, idx t]; done)
end

theorem ref_gb (X0 : FVec Ideal S4096x256 .f32) (X1 : FVec Ideal S4096x2688 .f32) (X2 : FVec Ideal S3x256 .f32) :
    truncf .bf16 (mulf X0 (addf (addf (mulf (concatenate S4096x256 0 [⟨S2x256, (broadcastInDim S2x256 ![] bcast_S_S2x256 (constant S_ .f32 0x00000000#32))⟩, ⟨S4094x256, (extractStridedSlice S4094x256 ![0, 0] (mulf (extractStridedSlice S4096x256 ![0, 1024] X1 slices_S4096x2688_S4096x256_0_1024) (extractStridedSlice S4096x256 ![0, 1280] X1 slices_S4096x2688_S4096x256_0_1280)) slices_S4096x256_S4094x256_0_0)⟩] concatenates_S2x256_S4094x256_S4096x256_d0) (broadcastInDim S4096x256 ![0, 1] bcast_S1x256_S4096x256_0_1 (extractStridedSlice S1x256 ![0, 0] X2 slices_S3x256_S1x256_0_0))) (mulf (concatenate S4096x256 0 [⟨S1x256, (broadcastInDim S1x256 ![] bcast_S_S1x256 (constant S_ .f32 0x00000000#32))⟩, ⟨S4095x256, (extractStridedSlice S4095x256 ![0, 0] (mulf (extractStridedSlice S4096x256 ![0, 1024] X1 slices_S4096x2688_S4096x256_0_1024) (extractStridedSlice S4096x256 ![0, 1280] X1 slices_S4096x2688_S4096x256_0_1280)) slices_S4096x256_S4095x256_0_0)⟩] concatenates_S1x256_S4095x256_S4096x256_d0) (broadcastInDim S4096x256 ![0, 1] bcast_S1x256_S4096x256_0_1 (extractStridedSlice S1x256 ![1, 0] X2 slices_S3x256_S1x256_1_0)))) (mulf (mulf (extractStridedSlice S4096x256 ![0, 1024] X1 slices_S4096x2688_S4096x256_0_1024) (extractStridedSlice S4096x256 ![0, 1280] X1 slices_S4096x2688_S4096x256_0_1280)) (broadcastInDim S4096x256 ![0, 1] bcast_S1x256_S4096x256_0_1 (extractStridedSlice S1x256 ![2, 0] X2 slices_S3x256_S1x256_2_0))))) Cert.ConvRefIdeal.Gen.bitsLt_bf16_f32 = GGb X0 X1 X2 := by
  funext j
  pointwise [GGb, fGb, down]
  split_ifs <;> (try simp only [zero_mul, mul_zero]) <;> ac_rfl

theorem ref_gc (X0 : FVec Ideal S4096x256 .f32) (X1 : FVec Ideal S4096x2688 .f32) (X2 : FVec Ideal S3x256 .f32) :
    truncf .bf16 (mulf (addf (addf (mulf (mulf (extractStridedSlice S4096x256 ![0, 768] X1 slices_S4096x2688_S4096x256_0_768) X0) (broadcastInDim S4096x256 ![0, 1] bcast_S1x256_S4096x256_0_1 (extractStridedSlice S1x256 ![2, 0] X2 slices_S3x256_S1x256_2_0))) (pad S4096x256 ![0, 0] ![1, 0] ![0, 0] (extractStridedSlice S4095x256 ![1, 0] (mulf (mulf (extractStridedSlice S4096x256 ![0, 768] X1 slices_S4096x2688_S4096x256_0_768) X0) (broadcastInDim S4096x256 ![0, 1] bcast_S1x256_S4096x256_0_1 (extractStridedSlice S1x256 ![1, 0] X2 slices_S3x256_S1x256_1_0))) slices_S4096x256_S4095x256_1_0) (constant S_ .f32 0x00000000#32) pads_S4095x256_S4096x256_010_000 h_S_)) (pad S4096x256 ![0, 0] ![2, 0] ![0, 0] (extractStridedSlice S4094x256 ![2, 0] (mulf (mulf (extractStridedSlice S4096x256 ![0, 768] X1 slices_S4096x2688_S4096x256_0_768) X0) (broadcastInDim S4096x256 ![0, 1] bcast_S1x256_S4096x256_0_1 (extractStridedSlice S1x256 ![0, 0] X2 slices_S3x256_S1x256_0_0))) slices_S4096x256_S4094x256_2_0) (constant S_ .f32 0x00000000#32) pads_S4094x256_S4096x256_020_000 h_S_)) (extractStridedSlice S4096x256 ![0, 1280] X1 slices_S4096x2688_S4096x256_0_1280)) Cert.ConvRefIdeal.Gen.bitsLt_bf16_f32 = GGc X0 X1 X2 := by
  funext j
  pointwise [GGc, fZ, up]
  split_ifs <;> first | omega | ((try simp only [zero_mul, mul_zero]) <;> first | ac_rfl | (ac_nf; exact congrArg _ (congrArg _ (add_comm _ _))))

theorem ref_u (X0 : FVec Ideal S4096x256 .f32) (X1 : FVec Ideal S4096x2688 .f32) (X2 : FVec Ideal S3x256 .f32) :
    truncf .bf16 (mulf (extractStridedSlice S4096x256 ![0, 1024] X1 slices_S4096x2688_S4096x256_0_1024) (addf (addf (mulf (mulf (extractStridedSlice S4096x256 ![0, 768] X1 slices_S4096x2688_S4096x256_0_768) X0) (broadcastInDim S4096x256 ![0, 1] bcast_S1x256_S4096x256_0_1 (extractStridedSlice S1x256 ![2, 0] X2 slices_S3x256_S1x256_2_0))) (pad S4096x256 ![0, 0] ![1, 0] ![0, 0] (extractStridedSlice S4095x256 ![1, 0] (mulf (mulf (extractStridedSlice S4096x256 ![0, 768] X1 slices_S4096x2688_S4096x256_0_768) X0) (broadcastInDim S4096x256 ![0, 1] bcast_S1x256_S4096x256_0_1 (extractStridedSlice S1x256 ![1, 0] X2 slices_S3x256_S1x256_1_0))) slices_S4096x256_S4095x256_1_0) (constant S_ .f32 0x00000000#32) pads_S4095x256_S4096x256_010_000 h_S_)) (pad S4096x256 ![0, 0] ![2, 0] ![0, 0] (extractStridedSlice S4094x256 ![2, 0] (mulf (mulf (extractStridedSlice S4096x256 ![0, 768] X1 slices_S4096x2688_S4096x256_0_768) X0) (broadcastInDim S4096x256 ![0, 1] bcast_S1x256_S4096x256_0_1 (extractStridedSlice S1x256 ![0, 0] X2 slices_S3x256_S1x256_0_0))) slices_S4096x256_S4094x256_2_0) (constant S_ .f32 0x00000000#32) pads_S4094x256_S4096x256_020_000 h_S_))) Cert.ConvRefIdeal.Gen.bitsLt_bf16_f32 = GU X0 X1 X2 := by
  funext j
  pointwise [GU, fZ, up]
  split_ifs <;> first | omega | ((try simp only [zero_mul, mul_zero]) <;> first | ac_rfl | (ac_nf; exact congrArg _ (congrArg _ (add_comm _ _))))

theorem ref_w (X0 : FVec Ideal S4096x256 .f32) (X1 : FVec Ideal S4096x2688 .f32) (X2 : FVec Ideal S3x256 .f32) :
    addf (addf (pad S3x256 ![2, 0] ![0, 0] ![0, 0] (shapeCast S1x256 (Host.reduceAdd (mulf (mulf (extractStridedSlice S4096x256 ![0, 1024] X1 slices_S4096x2688_S4096x256_0_1024) (extractStridedSlice S4096x256 ![0, 1280] X1 slices_S4096x2688_S4096x256_0_1280)) (mulf (extractStridedSlice S4096x256 ![0, 768] X1 slices_S4096x2688_S4096x256_0_768) X0)) (constant S_ .f32 0x00000000#32) reducesTo_S4096x256_S256_d0 h_S_) shapeCasts_S256_S1x256) (constant S_ .f32 0x00000000#32) pads_S1x256_S3x256_200_000 h_S_) (pad S3x256 ![1, 0] ![1, 0] ![0, 0] (shapeCast S1x256 (Host.reduceAdd (mulf (concatenate S4096x256 0 [⟨S1x256, (broadcastInDim S1x256 ![] bcast_S_S1x256 (constant S_ .f32 0x00000000#32))⟩, ⟨S4095x256, (extractStridedSlice S4095x256 ![0, 0] (mulf (extractStridedSlice S4096x256 ![0, 1024] X1 slices_S4096x2688_S4096x256_0_1024) (extractStridedSlice S4096x256 ![0, 1280] X1 slices_S4096x2688_S4096x256_0_1280)) slices_S4096x256_S4095x256_0_0)⟩] concatenates_S1x256_S4095x256_S4096x256_d0) (mulf (extractStridedSlice S4096x256 ![0, 768] X1 slices_S4096x2688_S4096x256_0_768) X0)) (constant S_ .f32 0x00000000#32) reducesTo_S4096x256_S256_d0 h_S_) shapeCasts_S256_S1x256) (constant S_ .f32 0x00000000#32) pads_S1x256_S3x256_110_000 h_S_)) (pad S3x256 ![0, 0] ![2, 0] ![0, 0] (shapeCast S1x256 (Host.reduceAdd (mulf (concatenate S4096x256 0 [⟨S2x256, (broadcastInDim S2x256 ![] bcast_S_S2x256 (constant S_ .f32 0x00000000#32))⟩, ⟨S4094x256, (extractStridedSlice S4094x256 ![0, 0] (mulf (extractStridedSlice S4096x256 ![0, 1024] X1 slices_S4096x2688_S4096x256_0_1024) (extractStridedSlice S4096x256 ![0, 1280] X1 slices_S4096x2688_S4096x256_0_1280)) slices_S4096x256_S4094x256_0_0)⟩] concatenates_S2x256_S4094x256_S4096x256_d0) (mulf (extractStridedSlice S4096x256 ![0, 768] X1 slices_S4096x2688_S4096x256_0_768) X0)) (constant S_ .f32 0x00000000#32) reducesTo_S4096x256_S256_d0 h_S_) shapeCasts_S256_S1x256) (constant S_ .f32 0x00000000#32) pads_S1x256_S3x256_020_000 h_S_) = GW X0 X1 X2 := by
  funext j
  pointwise [GW, fW, down]
  have hj : (j 0).val < 3 := (j 0).isLt
  have h3 : (j 0).val = 0 ∨ (j 0).val = 1 ∨ (j 0).val = 2 := by omega
  simp only [dite_eq_ite]
  rcases h3 with h | h | h <;> rw [h] <;>
    simp only [mul_zero, zero_mul, Finset.sum_const_zero, zero_add, add_zero, if_true, if_false, Nat.not_lt_zero, Nat.le_refl, Nat.reduceLeDiff, Nat.reduceSub, Nat.reduceLT, Nat.reduceEqDiff, and_self, false_and, and_false, and_true, true_and, one_ne_zero] <;> ac_rfl

/-- The kernel's run: its four results are the named gradients of its arguments, which stay. -/
theorem run_kernel (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = GGb (m ((c.tc : Thread nD τ).loc main_arg0)) (m ((c.tc : Thread nD τ).loc main_arg1)) (m ((c.tc : Thread nD τ).loc main_arg2))
      ∧ r.2.mem ((c.tc : Thread nD τ).loc main_v0_1) = GGc (m ((c.tc : Thread nD τ).loc main_arg0)) (m ((c.tc : Thread nD τ).loc main_arg1)) (m ((c.tc : Thread nD τ).loc main_arg2))
      ∧ r.2.mem ((c.tc : Thread nD τ).loc main_v0_2) = GU (m ((c.tc : Thread nD τ).loc main_arg0)) (m ((c.tc : Thread nD τ).loc main_arg1)) (m ((c.tc : Thread nD τ).loc main_arg2))
      ∧ r.2.mem ((c.tc : Thread nD τ).loc main_v0_3) = GW (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨h5, h6, h7, h8, ha⟩ := h c
    exact ⟨h5.trans (final5 m c), h6.trans (final6 m c), h7.trans (final7 m c), h8.trans (final8 m c), ha⟩) (Value.run_blocks m g)

/-- The reference's run: the same gradients of its arguments, which stay. -/
theorem run_ref (m : (ℓ : Loc Cert.ConvRefIdeal.nD Cert.ConvRefIdeal.τ Cert.ConvRefIdeal.sig) → Buf (Elt Ideal) ℓ) (g : Dev Cert.ConvRefIdeal.nD → PrngReg) :
    θ_run (Cert.ConvRefIdeal.defs (F := Ideal)) (onTc (τ := Cert.ConvRefIdeal.τ) (Cert.ConvRefIdeal.main (F := Ideal))) ⟨m, fun _ => 0, g⟩ (fun r => ∀ c : Dev Cert.ConvRefIdeal.nD,
      r.2.mem ((c.tc : Thread Cert.ConvRefIdeal.nD Cert.ConvRefIdeal.τ).loc Cert.ConvRefIdeal.main_v56) = GGb (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2))
      ∧ r.2.mem ((c.tc : Thread Cert.ConvRefIdeal.nD Cert.ConvRefIdeal.τ).loc Cert.ConvRefIdeal.main_v57) = GGc (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2))
      ∧ r.2.mem ((c.tc : Thread Cert.ConvRefIdeal.nD Cert.ConvRefIdeal.τ).loc Cert.ConvRefIdeal.main_v58) = GU (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2))
      ∧ r.2.mem ((c.tc : Thread Cert.ConvRefIdeal.nD Cert.ConvRefIdeal.τ).loc Cert.ConvRefIdeal.main_v49) = GW (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2))
      ∧ r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)) :=
  (θ_run Cert.ConvRefIdeal.defs _ _).mono (fun r h c => by
    obtain ⟨h5, h6, h7, h8, ha⟩ := h c
    exact ⟨h5.trans (ref_gb _ _ _), h6.trans (ref_gc _ _ _), h7.trans (ref_u _ _ _), h8.trans (ref_w _ _ _), ha⟩) (Cert.ConvRefIdeal.Value.run m g)

end Cert.ConvIdeal.Conv
-- ==== Proof.Products.lean ====
module

public import Idealize.ShloMosaic.Lib.Pipeline.ValueKit
public import Idealize.ShloMosaic.Lib.Pointwise

@[expose] public section

noncomputable section

namespace Cert.Products
open Idealize.ShloMosaic

/-- The product of an `n × k` with a `k × p` matrix, over the extended reals. -/
def prod {n k p : ℕ} (A : FVec Ideal ⟨2, ![n, k]⟩ .bf16) (B : FVec Ideal ⟨2, ![k, p]⟩ .bf16) : FVec Ideal ⟨2, ![n, p]⟩ .f32 :=
  fun j => ∑ l : Fin k, A (ix2 (j 0) l) * B (ix2 l (j 1))

/-- The product with the left matrix transposed: the gradient of a weight. -/
def prodTA {n k p : ℕ} (A : FVec Ideal ⟨2, ![k, n]⟩ .bf16) (B : FVec Ideal ⟨2, ![k, p]⟩ .bf16) : FVec Ideal ⟨2, ![n, p]⟩ .f32 :=
  fun j => ∑ l : Fin k, A (ix2 l (j 0)) * B (ix2 l (j 1))

/-- The product with the right matrix transposed: the gradient of an input. -/
def prodTB {n k p : ℕ} (A : FVec Ideal ⟨2, ![n, k]⟩ .bf16) (B : FVec Ideal ⟨2, ![p, k]⟩ .bf16) : FVec Ideal ⟨2, ![n, p]⟩ .f32 :=
  fun j => ∑ l : Fin k, A (ix2 (j 0) l) * B (ix2 (j 1) l)

/-- A residual array added to a product. -/
def withRes {n p : ℕ} (P X : FVec Ideal ⟨2, ![n, p]⟩ .f32) : FVec Ideal ⟨2, ![n, p]⟩ .f32 :=
  fun j => X j + P j

end Cert.Products
-- ==== Proof.DwGateUp.lean ====
module

public import proofs.«01_k».proof.Proof.Gen.DwGateUpIdeal.Value
public import proofs.«01_k».proof.Proof.Gen.DwGateUpRefIdeal.Run
public import proofs.«01_k».proof.Proof.Products
public import proofs.«01_k».proof.Defs

@[expose] public section

set_option maxRecDepth 16384

noncomputable section

namespace Cert.DwGateUpIdeal.Mm
open Cert.DwGateUpIdeal Cert.DwGateUpIdeal.Gen Cert.Products Idealize.ShloMosaic Idealize.ShloMosaic.TcCoe Idealize.SL.Sem
open Idealize.ShloMosaic.Pipeline (Dat)

/-- The accumulator starts at zero. -/
theorem hzero (j) : k0_pay1 (F := Ideal) j = 0 := by pointwise [k0_pay1]

/-- One point adds its part of the sum. -/
theorem hpay (acc x0 x1 j) : k0_pay2 (F := Ideal) acc x0 x1 j = acc j + ∑ k : Fin 1024, x0 (ix2 k (j 0)) * x1 (ix2 k (j 1)) := by
  pointwise [k0_pay2]

/-- The blocks a point reads and writes. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

variable (m : (ℓ : Loc nD τ sig) → Buf (Elt Ideal) ℓ)

/-- Where the result is stored, it is the accumulator. -/
theorem stored (c : Dev nD) (t : Fin cfg0.N) (h : t.val % 4 = 3) : (outsAt0 m c t.val t.isLt).1 = (outsAt0 m c t.val t.isLt).2 := by
  rw [outsAt0_C m c t (by omega) h]; frame_out

/-- The result's array after the run. -/
theorem final (c : Dev nD) : (dats m 0 c).arrAt 2 (cfgs 0).N
    = prodTA (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay]; exact congrArg (· + _) (congrFun (Memref.IsWhole.read_unread _ _) j)
      · rw [outsAt0_B m c t h h1]; frame_out; rw [hpay]; exact congrArg (· + _) (congrFun (Memref.IsWhole.read_unread _ _) j))
    t ((flush0_2 t).mp hf) _, zero_add]
  unfold prodTA
  refine Fin.sum_mul_add_congr fun s k hl => ?_
  blk_point [iblk, V, idx t, idx ⟨_, Pipeline.run_point_lt_of_flush t ((flush0_2 t).mp hf) s⟩]

/-- The kernel's run: its result is the product of its arguments, which stay. -/
theorem run_kernel (g : Dev nD → PrngReg) :
    θ_run (defs (F := Ideal)) (onTc (τ := τ) (main (F := Ideal))) ⟨m, fun _ => 0, g⟩ (fun r => ∀ c : Dev nD,
      r.2.mem ((c.tc : Thread nD τ).loc main_v0) = prodTA (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (final m c), (h c).2⟩) (Value.run_blocks m g)

/-- The reference's term is the same product. -/
theorem ref_eq (X0 : FVec Ideal S4096x1024 .bf16) (X1 : FVec Ideal S4096x5632 .bf16) :
    transpose Cert.DwGateUpRefIdeal.S1024x5632 [1, 0] (Host.dotGeneral Cert.DwGateUpRefIdeal.dot_S4096x5632_S4096x1024_S5632x1024_0_0_1_1_n_n none (extf .f32 X1 Cert.DwGateUpRefIdeal.Gen.bitsLt_bf16_f32) (extf .f32 X0 Cert.DwGateUpRefIdeal.Gen.bitsLt_bf16_f32)) Cert.DwGateUpRefIdeal.Gen.transposes_S5632x1024_S1024x5632_1_0 = prodTA X0 X1 := by
  funext j
  pointwise [prodTA]
  exact Fin.sum_fin_congr fun k => mul_comm _ _

/-- The reference runs to its end and leaves its arguments as they were. -/
theorem ref_frame : Cert.quiescent_DwGateUpRefIdeal := fun m ρ _ =>
  (θ_run Cert.DwGateUpRefIdeal.defs _ _).mono (fun r h => ⟨fun c => (h c).2, sem_eq_zero_of_no_sems (by decide) r.2⟩)
    (Cert.DwGateUpRefIdeal.Value.run m ρ)

/-- The kernel's result is the reference's, over the extended reals. -/
theorem algebraic : Cert.algebraic_DwGateUpIdeal_DwGateUpRefIdeal := by
  intro m g m' g' _ hagree
  refine ⟨_, run_kernel m g, (θ_run Cert.DwGateUpRefIdeal.defs _ _).mono (fun r h c => ?_) (Cert.DwGateUpRefIdeal.Value.run m' g')⟩
  obtain ⟨h0, h1⟩ := hagree c
  rw [← h0, ← h1]
  exact ⟨(h c).1.trans (ref_eq _ _), (h c).2⟩

end Cert.DwGateUpIdeal.Mm
-- ==== Proof.DwDown.lean ====
module

public import proofs.«01_k».proof.Proof.Gen.DwDownIdeal.Value
public import proofs.«01_k».proof.Proof.Gen.DwDownRefIdeal.Run
public import proofs.«01_k».proof.Proof.Products
public import proofs.«01_k».proof.Defs

@[expose] public section

set_option maxRecDepth 16384

noncomputable section

namespace Cert.DwDownIdeal.Mm
open Cert.DwDownIdeal Cert.DwDownIdeal.Gen Cert.Products Idealize.ShloMosaic Idealize.ShloMosaic.TcCoe Idealize.SL.Sem
open Idealize.ShloMosaic.Pipeline (Dat)

/-- The accumulator starts at zero. -/
theorem hzero (j) : k0_pay1 (F := Ideal) j = 0 := by pointwise [k0_pay1]

/-- One point adds its part of the sum. -/
theorem hpay (acc x0 x1 j) : k0_pay2 (F := Ideal) acc x0 x1 j = acc j + ∑ k : Fin 1024, x0 (ix2 k (j 0)) * x1 (ix2 k (j 1)) := by
  pointwise [k0_pay2]

/-- The blocks a point reads and writes. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

variable (m : (ℓ : Loc nD τ sig) → Buf (Elt Ideal) ℓ)

/-- Where the result is stored, it is the accumulator. -/
theorem stored (c : Dev nD) (t : Fin cfg0.N) (h : t.val % 4 = 3) : (outsAt0 m c t.val t.isLt).1 = (outsAt0 m c t.val t.isLt).2 := by
  rw [outsAt0_C m c t (by omega) h]; frame_out

/-- The result's array after the run. -/
theorem final (c : Dev nD) : (dats m 0 c).arrAt 2 (cfgs 0).N
    = prodTA (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay]; exact congrArg (· + _) (congrFun (Memref.IsWhole.read_unread _ _) j)
      · rw [outsAt0_B m c t h h1]; frame_out; rw [hpay]; exact congrArg (· + _) (congrFun (Memref.IsWhole.read_unread _ _) j))
    t ((flush0_2 t).mp hf) _, zero_add]
  unfold prodTA
  refine Fin.sum_mul_add_congr fun s k hl => ?_
  blk_point [iblk, V, idx t, idx ⟨_, Pipeline.run_point_lt_of_flush t ((flush0_2 t).mp hf) s⟩]

/-- The kernel's run: its result is the product of its arguments, which stay. -/
theorem run_kernel (g : Dev nD → PrngReg) :
    θ_run (defs (F := Ideal)) (onTc (τ := τ) (main (F := Ideal))) ⟨m, fun _ => 0, g⟩ (fun r => ∀ c : Dev nD,
      r.2.mem ((c.tc : Thread nD τ).loc main_v0) = prodTA (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (final m c), (h c).2⟩) (Value.run_blocks m g)

/-- The reference's term is the same product. -/
theorem ref_eq (X0 : FVec Ideal S4096x2816 .bf16) (X1 : FVec Ideal S4096x1024 .bf16) :
    transpose Cert.DwDownRefIdeal.S2816x1024 [1, 0] (Host.dotGeneral Cert.DwDownRefIdeal.dot_S4096x1024_S4096x2816_S1024x2816_0_0_1_1_n_n none (extf .f32 X1 Cert.DwDownRefIdeal.Gen.bitsLt_bf16_f32) (extf .f32 X0 Cert.DwDownRefIdeal.Gen.bitsLt_bf16_f32)) Cert.DwDownRefIdeal.Gen.transposes_S1024x2816_S2816x1024_1_0 = prodTA X0 X1 := by
  funext j
  pointwise [prodTA]
  exact Fin.sum_fin_congr fun k => mul_comm _ _

/-- The reference runs to its end and leaves its arguments as they were. -/
theorem ref_frame : Cert.quiescent_DwDownRefIdeal := fun m ρ _ =>
  (θ_run Cert.DwDownRefIdeal.defs _ _).mono (fun r h => ⟨fun c => (h c).2, sem_eq_zero_of_no_sems (by decide) r.2⟩)
    (Cert.DwDownRefIdeal.Value.run m ρ)

/-- The kernel's result is the reference's, over the extended reals. -/
theorem algebraic : Cert.algebraic_DwDownIdeal_DwDownRefIdeal := by
  intro m g m' g' _ hagree
  refine ⟨_, run_kernel m g, (θ_run Cert.DwDownRefIdeal.defs _ _).mono (fun r h c => ?_) (Cert.DwDownRefIdeal.Value.run m' g')⟩
  obtain ⟨h0, h1⟩ := hagree c
  rw [← h0, ← h1]
  exact ⟨(h c).1.trans (ref_eq _ _), (h c).2⟩

end Cert.DwDownIdeal.Mm
-- ==== Proof.DwO.lean ====
module

public import proofs.«01_k».proof.Proof.Gen.DwOIdeal.Value
public import proofs.«01_k».proof.Proof.Gen.DwORefIdeal.Run
public import proofs.«01_k».proof.Proof.Products
public import proofs.«01_k».proof.Defs

@[expose] public section

set_option maxRecDepth 16384

noncomputable section

namespace Cert.DwOIdeal.Mm
open Cert.DwOIdeal Cert.DwOIdeal.Gen Cert.Products Idealize.ShloMosaic Idealize.ShloMosaic.TcCoe Idealize.SL.Sem
open Idealize.ShloMosaic.Pipeline (Dat)

/-- The accumulator starts at zero. -/
theorem hzero (j) : k0_pay1 (F := Ideal) j = 0 := by pointwise [k0_pay1]

/-- One point adds its part of the sum. -/
theorem hpay (acc x0 x1 j) : k0_pay2 (F := Ideal) acc x0 x1 j = acc j + ∑ k : Fin 1024, x0 (ix2 k (j 0)) * x1 (ix2 k (j 1)) := by
  pointwise [k0_pay2]

/-- The blocks a point reads and writes. -/
theorem idx : ∀ t : Fin cfg0.N, win0_0.index t = ![t.val % 4, 0] ∧ win0_1.index t = ![t.val % 4, 0] ∧ win0_2.index t = ![0, 0] :=
  (by decide +kernel : ∀ t : Fin grid0.N, _)

variable (m : (ℓ : Loc nD τ sig) → Buf (Elt Ideal) ℓ)

/-- Where the result is stored, it is the accumulator. -/
theorem stored (c : Dev nD) (t : Fin cfg0.N) (h : t.val % 4 = 3) : (outsAt0 m c t.val t.isLt).1 = (outsAt0 m c t.val t.isLt).2 := by
  rw [outsAt0_C m c t (by omega) h]; frame_out

/-- The result's array after the run. -/
theorem final (c : Dev nD) : (dats m 0 c).arrAt 2 (cfgs 0).N
    = prodTA (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay]; exact congrArg (· + _) (congrFun (Memref.IsWhole.read_unread _ _) j)
      · rw [outsAt0_B m c t h h1]; frame_out; rw [hpay]; exact congrArg (· + _) (congrFun (Memref.IsWhole.read_unread _ _) j))
    t ((flush0_2 t).mp hf) _, zero_add]
  unfold prodTA
  refine Fin.sum_mul_add_congr fun s k hl => ?_
  blk_point [iblk, V, idx t, idx ⟨_, Pipeline.run_point_lt_of_flush t ((flush0_2 t).mp hf) s⟩]

/-- The kernel's run: its result is the product of its arguments, which stay. -/
theorem run_kernel (g : Dev nD → PrngReg) :
    θ_run (defs (F := Ideal)) (onTc (τ := τ) (main (F := Ideal))) ⟨m, fun _ => 0, g⟩ (fun r => ∀ c : Dev nD,
      r.2.mem ((c.tc : Thread nD τ).loc main_v0) = prodTA (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (final m c), (h c).2⟩) (Value.run_blocks m g)

/-- The reference's term is the same product. -/
theorem ref_eq (X0 : FVec Ideal S4096x1024 .bf16) (X1 : FVec Ideal S4096x1024 .bf16) :
    transpose Cert.DwORefIdeal.S1024x1024 [1, 0] (Host.dotGeneral Cert.DwORefIdeal.dot_S4096x1024_S4096x1024_S1024x1024_0_0_1_1_n_n none (extf .f32 X1 Cert.DwORefIdeal.Gen.bitsLt_bf16_f32) (extf .f32 X0 Cert.DwORefIdeal.Gen.bitsLt_bf16_f32)) Cert.DwORefIdeal.Gen.transposes_S1024x1024_S1024x1024_1_0 = prodTA X0 X1 := by
  funext j
  pointwise [prodTA]
  exact Fin.sum_fin_congr fun k => mul_comm _ _

/-- The reference runs to its end and leaves its arguments as they were. -/
theorem ref_frame : Cert.quiescent_DwORefIdeal := fun m ρ _ =>
  (θ_run Cert.DwORefIdeal.defs _ _).mono (fun r h => ⟨fun c => (h c).2, sem_eq_zero_of_no_sems (by decide) r.2⟩)
    (Cert.DwORefIdeal.Value.run m ρ)

/-- The kernel's result is the reference's, over the extended reals. -/
theorem algebraic : Cert.algebraic_DwOIdeal_DwORefIdeal := by
  intro m g m' g' _ hagree
  refine ⟨_, run_kernel m g, (θ_run Cert.DwORefIdeal.defs _ _).mono (fun r h c => ?_) (Cert.DwORefIdeal.Value.run m' g')⟩
  obtain ⟨h0, h1⟩ := hagree c
  rw [← h0, ← h1]
  exact ⟨(h c).1.trans (ref_eq _ _), (h c).2⟩

end Cert.DwOIdeal.Mm
-- ==== Proof.DwIn.lean ====
module

public import proofs.«01_k».proof.Proof.Gen.DwInIdeal.Value
public import proofs.«01_k».proof.Proof.Gen.DwInRefIdeal.Run
public import proofs.«01_k».proof.Proof.Products
public import proofs.«01_k».proof.Defs

@[expose] public section

set_option maxRecDepth 16384

noncomputable section

namespace Cert.DwInIdeal.Mm
open Cert.DwInIdeal Cert.DwInIdeal.Gen Cert.Products Idealize.ShloMosaic Idealize.ShloMosaic.TcCoe Idealize.SL.Sem
open Idealize.ShloMosaic.Pipeline (Dat)

/-- The accumulator starts at zero. -/
theorem hzero (j) : k0_pay1 (F := Ideal) j = 0 := by pointwise [k0_pay1]

/-- One point adds its part of the sum. -/
theorem hpay (acc x0 x1 j) : k0_pay2 (F := Ideal) acc x0 x1 j = acc j + ∑ k : Fin 1024, x0 (ix2 k (j 0)) * x1 (ix2 k (j 1)) := by
  pointwise [k0_pay2]

/-- The blocks a point reads and writes. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

variable (m : (ℓ : Loc nD τ sig) → Buf (Elt Ideal) ℓ)

/-- Where the result is stored, it is the accumulator. -/
theorem stored (c : Dev nD) (t : Fin cfg0.N) (h : t.val % 4 = 3) : (outsAt0 m c t.val t.isLt).1 = (outsAt0 m c t.val t.isLt).2 := by
  rw [outsAt0_C m c t (by omega) h]; frame_out

/-- The result's array after the run. -/
theorem final (c : Dev nD) : (dats m 0 c).arrAt 2 (cfgs 0).N
    = prodTA (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay]; exact congrArg (· + _) (congrFun (Memref.IsWhole.read_unread _ _) j)
      · rw [outsAt0_B m c t h h1]; frame_out; rw [hpay]; exact congrArg (· + _) (congrFun (Memref.IsWhole.read_unread _ _) j))
    t ((flush0_2 t).mp hf) _, zero_add]
  unfold prodTA
  refine Fin.sum_mul_add_congr fun s k hl => ?_
  blk_point [iblk, V, idx t, idx ⟨_, Pipeline.run_point_lt_of_flush t ((flush0_2 t).mp hf) s⟩]

/-- The kernel's run: its result is the product of its arguments, which stay. -/
theorem run_kernel (g : Dev nD → PrngReg) :
    θ_run (defs (F := Ideal)) (onTc (τ := τ) (main (F := Ideal))) ⟨m, fun _ => 0, g⟩ (fun r => ∀ c : Dev nD,
      r.2.mem ((c.tc : Thread nD τ).loc main_v0) = prodTA (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (final m c), (h c).2⟩) (Value.run_blocks m g)

/-- The reference's term is the same product. -/
theorem ref_eq (X0 : FVec Ideal S4096x1024 .bf16) (X1 : FVec Ideal S4096x2688 .bf16) :
    transpose Cert.DwInRefIdeal.S1024x2688 [1, 0] (Host.dotGeneral Cert.DwInRefIdeal.dot_S4096x2688_S4096x1024_S2688x1024_0_0_1_1_n_n none (extf .f32 X1 Cert.DwInRefIdeal.Gen.bitsLt_bf16_f32) (extf .f32 X0 Cert.DwInRefIdeal.Gen.bitsLt_bf16_f32)) Cert.DwInRefIdeal.Gen.transposes_S2688x1024_S1024x2688_1_0 = prodTA X0 X1 := by
  funext j
  pointwise [prodTA]
  exact Fin.sum_fin_congr fun k => mul_comm _ _

/-- The reference runs to its end and leaves its arguments as they were. -/
theorem ref_frame : Cert.quiescent_DwInRefIdeal := fun m ρ _ =>
  (θ_run Cert.DwInRefIdeal.defs _ _).mono (fun r h => ⟨fun c => (h c).2, sem_eq_zero_of_no_sems (by decide) r.2⟩)
    (Cert.DwInRefIdeal.Value.run m ρ)

/-- The kernel's result is the reference's, over the extended reals. -/
theorem algebraic : Cert.algebraic_DwInIdeal_DwInRefIdeal := by
  intro m g m' g' _ hagree
  refine ⟨_, run_kernel m g, (θ_run Cert.DwInRefIdeal.defs _ _).mono (fun r h c => ?_) (Cert.DwInRefIdeal.Value.run m' g')⟩
  obtain ⟨h0, h1⟩ := hagree c
  rw [← h0, ← h1]
  exact ⟨(h c).1.trans (ref_eq _ _), (h c).2⟩

end Cert.DwInIdeal.Mm
-- ==== Proof.DMixed.lean ====
module

public import proofs.«01_k».proof.Proof.Gen.DMixedIdeal.Value
public import proofs.«01_k».proof.Proof.Gen.DMixedRefIdeal.Run
public import proofs.«01_k».proof.Proof.Products
public import proofs.«01_k».proof.Defs

@[expose] public section

set_option maxRecDepth 16384

noncomputable section

namespace Cert.DMixedIdeal.Mm
open Cert.DMixedIdeal Cert.DMixedIdeal.Gen Cert.Products Idealize.ShloMosaic Idealize.ShloMosaic.TcCoe Idealize.SL.Sem
open Idealize.ShloMosaic.Pipeline (Dat)

/-- One point computes its block whole. -/
theorem hpay (x0 x1 j) : k0_pay1 (F := Ideal) x0 x1 j = ∑ k : Fin 1024, x0 (ix2 (j 0) k) * x1 (ix2 (j 1) k) := by
  pointwise [k0_pay1]

/-- The blocks a point reads and writes. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The result's array after the run. -/
theorem final (c : Dev nD) : (dats m 0 c).arrAt 2 (cfgs 0).N
    = prodTB (m ((c : Thread nD τ).loc main_arg0)) (m ((c : Thread nD τ).loc main_arg1)) := by
  refine (dats m 0 c).arrAt_eq_of_covers 2 _ (by decide +kernel) fun t _ y => ?_
  blk_simp
  rw [after0_2]; unfold out0_2; frame_out
  rw [hpay]
  unfold prodTB
  refine Fin.sum_fin_congr fun k => ?_
  blk_point [iblk, V, idx t]
/-- The kernel's run: its result is the product of its arguments, which stay. -/
theorem run_kernel (g : Dev nD → PrngReg) :
    θ_run (defs (F := Ideal)) (onTc (τ := τ) (main (F := Ideal))) ⟨m, fun _ => 0, g⟩ (fun r => ∀ c : Dev nD,
      r.2.mem ((c.tc : Thread nD τ).loc main_v0) = prodTB (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (final m c), (h c).2⟩) (Value.run_blocks m g)

/-- The reference's term is the same product. -/
theorem ref_eq (X0 : FVec Ideal S4096x1024 .bf16) (X1 : FVec Ideal S1024x1024 .bf16) :
    Host.dotGeneral Cert.DMixedRefIdeal.dot_S4096x1024_S1024x1024_S4096x1024_1_1_0_0_n_n none (extf .f32 X0 Cert.DMixedRefIdeal.Gen.bitsLt_bf16_f32) (extf .f32 X1 Cert.DMixedRefIdeal.Gen.bitsLt_bf16_f32) = prodTB X0 X1 := by
  funext j
  pointwise [prodTB]

/-- The reference runs to its end and leaves its arguments as they were. -/
theorem ref_frame : Cert.quiescent_DMixedRefIdeal := fun m ρ _ =>
  (θ_run Cert.DMixedRefIdeal.defs _ _).mono (fun r h => ⟨fun c => (h c).2, sem_eq_zero_of_no_sems (by decide) r.2⟩)
    (Cert.DMixedRefIdeal.Value.run m ρ)

/-- The kernel's result is the reference's, over the extended reals. -/
theorem algebraic : Cert.algebraic_DMixedIdeal_DMixedRefIdeal := by
  intro m g m' g' _ hagree
  refine ⟨_, run_kernel m g, (θ_run Cert.DMixedRefIdeal.defs _ _).mono (fun r h c => ?_) (Cert.DMixedRefIdeal.Value.run m' g')⟩
  obtain ⟨h0, h1⟩ := hagree c
  rw [← h0, ← h1]
  exact ⟨(h c).1.trans (ref_eq _ _), (h c).2⟩

end Cert.DMixedIdeal.Mm
-- ==== Proof.DH.lean ====
module

public import proofs.«01_k».proof.Proof.Gen.DHIdeal.Value
public import proofs.«01_k».proof.Proof.Gen.DHRefIdeal.Run
public import proofs.«01_k».proof.Proof.Products
public import proofs.«01_k».proof.Defs

@[expose] public section

set_option maxRecDepth 16384

noncomputable section

namespace Cert.DHIdeal.Mm
open Cert.DHIdeal Cert.DHIdeal.Gen Cert.Products Idealize.ShloMosaic Idealize.ShloMosaic.TcCoe Idealize.SL.Sem
open Idealize.ShloMosaic.Pipeline (Dat)

/-- The accumulator starts at zero. -/
theorem hzero (j) : k0_pay1 (F := Ideal) j = 0 := by pointwise [k0_pay1]

/-- One point adds its part of the sum. -/
theorem hpay (acc x0 x1 j) : k0_pay2 (F := Ideal) acc x0 x1 j = acc j + ∑ k : Fin 896, x0 (ix2 (j 0) k) * x1 (ix2 (j 1) k) := by
  pointwise [k0_pay2]

/-- The blocks a point reads and writes. -/
theorem idx : ∀ t : Fin cfg0.N, win0_0.index t = ![t.val / 3, t.val % 3] ∧ win0_1.index t = ![0, t.val % 3] ∧ win0_2.index t = ![t.val / 3, 0] :=
  (by decide +kernel : ∀ t : Fin grid0.N, _)

variable (m : (ℓ : Loc nD τ sig) → Buf (Elt Ideal) ℓ)

/-- Where the result is stored, it is the accumulator. -/
theorem stored (c : Dev nD) (t : Fin cfg0.N) (h : t.val % 3 = 2) : (outsAt0 m c t.val t.isLt).1 = (outsAt0 m c t.val t.isLt).2 := by
  rw [outsAt0_C m c t (by omega) h]; frame_out

/-- The result's array after the run. -/
theorem final (c : Dev nD) : (dats m 0 c).arrAt 2 (cfgs 0).N
    = prodTB (m ((c : Thread nD τ).loc main_arg0)) (m ((c : Thread nD τ).loc main_arg1)) := by
  refine (dats m 0 c).arrAt_eq_of_covers 2 _ (by decide +kernel) fun t hf y => ?_
  blk_simp
  rw [after0_2, stored m c t ((flush0_2 t).mp hf), Pipeline.eq_sum_fin_of_reset_step_apply_of_flush (fun n h => (outsAt0 m c n h).2) 3 (fun _ => 0) _
    (fun t h j => by rw [outsAt0_A m c t h (by omega)]; frame_out; rw [hpay, hzero])
    (fun t h j => by
      by_cases h1 : t.val % 3 = 2
      · rw [outsAt0_C m c t h h1]; frame_out; rw [hpay]; exact congrArg (· + _) (congrFun (Memref.IsWhole.read_unread _ _) j)
      · rw [outsAt0_B m c t h h1]; frame_out; rw [hpay]; exact congrArg (· + _) (congrFun (Memref.IsWhole.read_unread _ _) j))
    t ((flush0_2 t).mp hf) _, zero_add]
  unfold prodTB
  refine Fin.sum_mul_add_congr fun s k hl => ?_
  blk_point [iblk, V, idx t, idx ⟨_, Pipeline.run_point_lt_of_flush t ((flush0_2 t).mp hf) s⟩]

/-- The kernel's run: its result is the product of its arguments, which stay. -/
theorem run_kernel (g : Dev nD → PrngReg) :
    θ_run (defs (F := Ideal)) (onTc (τ := τ) (main (F := Ideal))) ⟨m, fun _ => 0, g⟩ (fun r => ∀ c : Dev nD,
      r.2.mem ((c.tc : Thread nD τ).loc main_v0) = prodTB (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (final m c), (h c).2⟩) (Value.run_blocks m g)

/-- The reference's term is the same product. -/
theorem ref_eq (X0 : FVec Ideal S4096x2688 .bf16) (X1 : FVec Ideal S1024x2688 .bf16) :
    Host.dotGeneral Cert.DHRefIdeal.dot_S4096x2688_S1024x2688_S4096x1024_1_1_0_0_n_n none (extf .f32 X0 Cert.DHRefIdeal.Gen.bitsLt_bf16_f32) (extf .f32 X1 Cert.DHRefIdeal.Gen.bitsLt_bf16_f32) = prodTB X0 X1 := by
  funext j
  pointwise [prodTB]

/-- The reference runs to its end and leaves its arguments as they were. -/
theorem ref_frame : Cert.quiescent_DHRefIdeal := fun m ρ _ =>
  (θ_run Cert.DHRefIdeal.defs _ _).mono (fun r h => ⟨fun c => (h c).2, sem_eq_zero_of_no_sems (by decide) r.2⟩)
    (Cert.DHRefIdeal.Value.run m ρ)

/-- The kernel's result is the reference's, over the extended reals. -/
theorem algebraic : Cert.algebraic_DHIdeal_DHRefIdeal := by
  intro m g m' g' _ hagree
  refine ⟨_, run_kernel m g, (θ_run Cert.DHRefIdeal.defs _ _).mono (fun r h c => ?_) (Cert.DHRefIdeal.Value.run m' g')⟩
  obtain ⟨h0, h1⟩ := hagree c
  rw [← h0, ← h1]
  exact ⟨(h c).1.trans (ref_eq _ _), (h c).2⟩

end Cert.DHIdeal.Mm
-- ==== Proof.InProj.lean ====
module

public import proofs.«01_k».proof.Proof.Gen.InProjIdeal.Value
public import proofs.«01_k».proof.Proof.Gen.InProjRefIdeal.Run
public import proofs.«01_k».proof.Proof.Products
public import proofs.«01_k».proof.Defs

@[expose] public section

set_option maxRecDepth 16384

noncomputable section

namespace Cert.InProjIdeal.Mm
open Cert.InProjIdeal Cert.InProjIdeal.Gen Cert.Products Idealize.ShloMosaic Idealize.ShloMosaic.TcCoe Idealize.SL.Sem
open Idealize.ShloMosaic.Pipeline (Dat)

/-- One point computes its block whole. -/
theorem hpay (x0 x1 j) : k0_pay1 (F := Ideal) x0 x1 j = ∑ k : Fin 1024, x0 (ix2 (j 0) k) * x1 (ix2 k (j 1)) := by
  pointwise [k0_pay1]

/-- The blocks a point reads and writes. -/
theorem idx : ∀ t : Fin cfg0.N, win0_0.index t = ![t.val / 3, 0] ∧ win0_1.index t = ![0, t.val % 3] ∧ win0_2.index t = ![t.val / 3, t.val % 3] :=
  (by decide +kernel : ∀ t : Fin grid0.N, _)

variable (m : (ℓ : Loc nD τ sig) → Buf (Elt Ideal) ℓ)

/-- The result's array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; unfold out0_2; frame_out
  rw [hpay]
  unfold prod
  refine Fin.sum_fin_congr fun k => ?_
  blk_point [iblk, V, idx t]
/-- The kernel's run: its result is the product of its arguments, which stay. -/
theorem run_kernel (g : Dev nD → PrngReg) :
    θ_run (defs (F := Ideal)) (onTc (τ := τ) (main (F := Ideal))) ⟨m, fun _ => 0, g⟩ (fun r => ∀ c : Dev nD,
      r.2.mem ((c.tc : Thread nD τ).loc main_v0) = prod (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (final m c), (h c).2⟩) (Value.run_blocks m g)

/-- The reference's term is the same product. -/
theorem ref_eq (X0 : FVec Ideal S4096x1024 .bf16) (X1 : FVec Ideal S1024x2688 .bf16) :
    Host.dotGeneral Cert.InProjRefIdeal.dot_S4096x1024_S1024x2688_S4096x2688_1_0_0_1_n_n none (extf .f32 X0 Cert.InProjRefIdeal.Gen.bitsLt_bf16_f32) (extf .f32 X1 Cert.InProjRefIdeal.Gen.bitsLt_bf16_f32) = prod X0 X1 := by
  funext j
  pointwise [prod]

/-- The reference runs to its end and leaves its arguments as they were. -/
theorem ref_frame : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run m ρ)

/-- The kernel's result is the reference's, over the extended reals. -/
theorem algebraic : Cert.algebraic_InProjIdeal_InProjRefIdeal := by
  intro m g m' g' _ hagree
  refine ⟨_, run_kernel m g, (θ_run Cert.InProjRefIdeal.defs _ _).mono (fun r h c => ?_) (Cert.InProjRefIdeal.Value.run m' g')⟩
  obtain ⟨h0, h1⟩ := hagree c
  rw [← h0, ← h1]
  exact ⟨(h c).1.trans (ref_eq _ _), (h c).2⟩

end Cert.InProjIdeal.Mm
-- ==== Proof.OutProj.lean ====
module

public import proofs.«01_k».proof.Proof.Gen.OutProjIdeal.Value
public import proofs.«01_k».proof.Proof.Gen.OutProjRefIdeal.Run
public import proofs.«01_k».proof.Proof.Products
public import proofs.«01_k».proof.Defs

@[expose] public section

set_option maxRecDepth 16384

noncomputable section

namespace Cert.OutProjIdeal.Mm
open Cert.OutProjIdeal Cert.OutProjIdeal.Gen Cert.Products Idealize.ShloMosaic Idealize.ShloMosaic.TcCoe Idealize.SL.Sem
open Idealize.ShloMosaic.Pipeline (Dat)

/-- One point computes its block whole. -/
theorem hpay (x0 x1 x2 j) : k0_pay1 (F := Ideal) x0 x1 x2 j = (∑ k : Fin 1024, x0 (ix2 (j 0) k) * x1 (ix2 k (j 1))) + x2 j := by
  pointwise [k0_pay1]

/-- The blocks a point reads and writes. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

variable (m : (ℓ : Loc nD τ sig) → Buf (Elt Ideal) ℓ)

/-- The result's array after the run. -/
theorem final (c : Dev nD) : (dats m 0 c).arrAt 3 (cfgs 0).N
    = withRes (prod (m ((c : Thread nD τ).loc main_arg0)) (m ((c : Thread nD τ).loc main_arg1))) (m ((c : Thread nD τ).loc main_arg2)) := by
  refine (dats m 0 c).arrAt_eq_of_covers 3 _ (by decide +kernel) fun t _ y => ?_
  blk_simp
  rw [after0_3]; unfold out0_3; frame_out
  rw [hpay, add_comm]
  unfold withRes prod
  refine congrArg₂ (· + ·) ?_ (Fin.sum_fin_congr fun k => ?_) <;> blk_point [iblk, V, idx t]
/-- The kernel's run: its result is the product of its arguments, which stay. -/
theorem run_kernel (g : Dev nD → PrngReg) :
    θ_run (defs (F := Ideal)) (onTc (τ := τ) (main (F := Ideal))) ⟨m, fun _ => 0, g⟩ (fun r => ∀ c : Dev nD,
      r.2.mem ((c.tc : Thread nD τ).loc main_v0) = withRes (prod (m ((c : Thread nD τ).loc main_arg0)) (m ((c : Thread nD τ).loc main_arg1))) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final m c), (h c).2⟩) (Value.run_blocks m g)

/-- The reference's term is the same product. -/
theorem ref_eq (X0 : FVec Ideal S4096x1024 .bf16) (X1 : FVec Ideal S1024x1024 .bf16) (X2 : FVec Ideal S4096x1024 .f32) :
    addf X2 (Host.dotGeneral Cert.OutProjRefIdeal.dot_S4096x1024_S1024x1024_S4096x1024_1_0_0_1_n_n none (extf .f32 X0 Cert.OutProjRefIdeal.Gen.bitsLt_bf16_f32) (extf .f32 X1 Cert.OutProjRefIdeal.Gen.bitsLt_bf16_f32)) = withRes (prod X0 X1) X2 := by
  funext j
  pointwise [withRes, prod]

/-- The reference runs to its end and leaves its arguments as they were. -/
theorem ref_frame : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run m ρ)

/-- The kernel's result is the reference's, over the extended reals. -/
theorem algebraic : Cert.algebraic_OutProjIdeal_OutProjRefIdeal := by
  intro m g m' g' _ hagree
  refine ⟨_, run_kernel m g, (θ_run Cert.OutProjRefIdeal.defs _ _).mono (fun r h c => ?_) (Cert.OutProjRefIdeal.Value.run m' g')⟩
  obtain ⟨h0, h1, h2⟩ := hagree c
  rw [← h0, ← h1, ← h2]
  exact ⟨(h c).1.trans (ref_eq _ _ _), (h c).2⟩

end Cert.OutProjIdeal.Mm
-- ==== Proof.Down.lean ====
module

public import proofs.«01_k».proof.Proof.Gen.DownIdeal.Value
public import proofs.«01_k».proof.Proof.Gen.DownRefIdeal.Run
public import proofs.«01_k».proof.Proof.Products
public import proofs.«01_k».proof.Defs

@[expose] public section

set_option maxRecDepth 16384

noncomputable section

namespace Cert.DownIdeal.Mm
open Cert.DownIdeal Cert.DownIdeal.Gen Cert.Products Idealize.ShloMosaic Idealize.ShloMosaic.TcCoe Idealize.SL.Sem
open Idealize.ShloMosaic.Pipeline (Dat)

/-- One point computes its block whole. -/
theorem hpay (x0 x1 x2 j) : k0_pay1 (F := Ideal) x0 x1 x2 j = (∑ k : Fin 2816, x0 (ix2 (j 0) k) * x1 (ix2 k (j 1))) + x2 j := by
  pointwise [k0_pay1]

/-- The blocks a point reads and writes. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

variable (m : (ℓ : Loc nD τ sig) → Buf (Elt Ideal) ℓ)

/-- The result's array after the run. -/
theorem final (c : Dev nD) : (dats m 0 c).arrAt 3 (cfgs 0).N
    = withRes (prod (m ((c : Thread nD τ).loc main_arg0)) (m ((c : Thread nD τ).loc main_arg1))) (m ((c : Thread nD τ).loc main_arg2)) := by
  refine (dats m 0 c).arrAt_eq_of_covers 3 _ (by decide +kernel) fun t _ y => ?_
  blk_simp
  rw [after0_3]; unfold out0_3; frame_out
  rw [hpay, add_comm]
  unfold withRes prod
  refine congrArg₂ (· + ·) ?_ (Fin.sum_fin_congr fun k => ?_) <;> blk_point [iblk, V, idx t]
/-- The kernel's run: its result is the product of its arguments, which stay. -/
theorem run_kernel (g : Dev nD → PrngReg) :
    θ_run (defs (F := Ideal)) (onTc (τ := τ) (main (F := Ideal))) ⟨m, fun _ => 0, g⟩ (fun r => ∀ c : Dev nD,
      r.2.mem ((c.tc : Thread nD τ).loc main_v0) = withRes (prod (m ((c : Thread nD τ).loc main_arg0)) (m ((c : Thread nD τ).loc main_arg1))) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final m c), (h c).2⟩) (Value.run_blocks m g)

/-- The reference's term is the same product. -/
theorem ref_eq (X0 : FVec Ideal S4096x2816 .bf16) (X1 : FVec Ideal S2816x1024 .bf16) (X2 : FVec Ideal S4096x1024 .f32) :
    addf X2 (Host.dotGeneral Cert.DownRefIdeal.dot_S4096x2816_S2816x1024_S4096x1024_1_0_0_1_n_n none (extf .f32 X0 Cert.DownRefIdeal.Gen.bitsLt_bf16_f32) (extf .f32 X1 Cert.DownRefIdeal.Gen.bitsLt_bf16_f32)) = withRes (prod X0 X1) X2 := by
  funext j
  pointwise [withRes, prod]

/-- The reference runs to its end and leaves its arguments as they were. -/
theorem ref_frame : Cert.quiescent_DownRefIdeal := fun m ρ _ =>
  (θ_run Cert.DownRefIdeal.defs _ _).mono (fun r h => ⟨fun c => (h c).2, sem_eq_zero_of_no_sems (by decide) r.2⟩)
    (Cert.DownRefIdeal.Value.run m ρ)

/-- The kernel's result is the reference's, over the extended reals. -/
theorem algebraic : Cert.algebraic_DownIdeal_DownRefIdeal := by
  intro m g m' g' _ hagree
  refine ⟨_, run_kernel m g, (θ_run Cert.DownRefIdeal.defs _ _).mono (fun r h c => ?_) (Cert.DownRefIdeal.Value.run m' g')⟩
  obtain ⟨h0, h1, h2⟩ := hagree c
  rw [← h0, ← h1, ← h2]
  exact ⟨(h c).1.trans (ref_eq _ _ _), (h c).2⟩

end Cert.DownIdeal.Mm
-- ==== Proof.Pairs.lean ====
module

public import proofs.«01_k».proof.Proof.Products
public import Idealize.ShloMosaic.Lib.ReduceAll

@[expose] public section

noncomputable section

namespace Cert.Products
open Idealize.ShloMosaic

/-- A gated unit: the gate times its logistic times the other half. -/
def gated (g u : EReal) : EReal := g * Ideal.logistic g * u

/-- The column of the plain layout, gates before the other half, that stands at a column of the paired layout, 256 by 256. -/
def pairCol (j : Fin 5632) : Fin 5632 := ⟨j.val / 256 % 2 * 2816 + j.val / 512 * 256 + j.val % 256, by have := j.isLt; omega⟩

/-- The hidden unit at a column of the paired layout. -/
def unitAt (j : Fin 5632) : Fin 2816 := ⟨j.val / 512 * 256 + j.val % 256, by have := j.isLt; omega⟩

/-- The gradient of a gated unit with respect to its gate, as the kernel computes it. -/
def dGate (a g u : EReal) : EReal := a * u * Ideal.logistic g * (1 + g * (1 - Ideal.logistic g))

/-- The gradient of a gated unit with respect to its other half. -/
def dUp (a g : EReal) : EReal := a * g * Ideal.logistic g

/-- A sum of products of finite numbers is finite. -/
theorem real_sum {n : ℕ} {f g : Fin n → EReal} (hf : ∀ k, ∃ r : ℝ, f k = r) (hg : ∀ k, ∃ r : ℝ, g k = r) : ∃ r : ℝ, ∑ k, f k * g k = r := by
  choose a ha using hf
  choose b hb using hg
  refine ⟨∑ k, a k * b k, ?_⟩
  simp only [ha, hb, ← EReal.coe_mul]
  induction (Finset.univ : Finset (Fin n)) using Finset.cons_induction with
  | empty => simp
  | cons k s hk ih => rw [Finset.sum_cons, Finset.sum_cons, ih, EReal.coe_add]

/-- The gradient with respect to the gate is that of the chain rule, where the numbers are finite. -/
theorem dGate_eq (a g u : EReal) (ha : ∃ r : ℝ, a = r) (hg : ∃ r : ℝ, g = r) (hu : ∃ r : ℝ, u = r) :
    a * u * Ideal.logistic g + g * (a * u) * (Ideal.logistic g * (1 - Ideal.logistic g)) = dGate a g u := by
  obtain ⟨a, rfl⟩ := ha
  obtain ⟨g, rfl⟩ := hg
  obtain ⟨u, rfl⟩ := hu
  unfold dGate
  rw [Ideal.logistic_coe]
  generalize (1 + Real.exp (-g))⁻¹ = s
  norm_cast
  ring

/-- A number whose absolute value is below infinity is finite. -/
theorem real_of_abs_lt {x : EReal} (h : FloatOps.cmpf (F := Ideal) (φ := .bf16) .olt (FloatOps.absf (F := Ideal) (φ := .bf16) x) (FloatOps.ofBits (F := Ideal) .bf16 0x7F80#16) = 1#1) : ∃ r : ℝ, x = r := by
  have hi : (FloatOps.ofBits (F := Ideal) .bf16 0x7F80#16 : EReal) = ⊤ := by
    simp only [FloatOps.ofBits, Ideal.ofBits, Ideal.ieee]
    rw [if_pos (by decide), if_pos (by decide), if_neg (by decide)]
  rw [hi] at h
  induction x with
  | bot => simp [FloatOps.cmpf, FloatOps.absf, Ideal.cmp] at h
  | top => simp [FloatOps.cmpf, FloatOps.absf, Ideal.cmp] at h
  | coe r => exact ⟨r, rfl⟩

end Cert.Products
-- ==== Proof.GateUp.lean ====
module

public import proofs.«01_k».proof.Proof.Gen.GateUpIdeal.Value
public import proofs.«01_k».proof.Proof.Gen.GateUpRefIdeal.Run
public import proofs.«01_k».proof.Proof.Pairs
public import proofs.«01_k».proof.Defs

@[expose] public section

set_option maxRecDepth 16384

noncomputable section

namespace Cert.GateUpIdeal.Mm
open Cert.GateUpIdeal Cert.GateUpIdeal.Gen Cert.Products Idealize.ShloMosaic Idealize.ShloMosaic.TcCoe Idealize.SL.Sem
open Idealize.ShloMosaic.Pipeline (Dat)

/-- The sum one point computes. -/
theorem hpay1 (x0 x1 j) : k0_pay1 (F := Ideal) x0 x1 j = ∑ k : Fin 1024, x0 (ix2 (j 0) k) * x1 (ix2 k (j 1)) := by
  pointwise [k0_pay1]

/-- The first stored block is that sum. -/
theorem hpay2 (x0 x1 j) : k0_pay2 (F := Ideal) x0 x1 j = ∑ k : Fin 1024, x0 (ix2 (j 0) k) * x1 (ix2 k (j 1)) := by
  pointwise [k0_pay2, k0_pay1]

/-- The second stored block is the gated unit of two of the sums. -/
theorem hpay3 (x0 x1 j) : k0_pay3 (F := Ideal) x0 x1 j = gated (∑ k : Fin 1024, x0 (ix2 (j 0) k) * x1 (ix2 k ⟨(j 1).val, by have := (j 1).isLt; simp at this; omega⟩))
    (∑ k : Fin 1024, x0 (ix2 (j 0) k) * x1 (ix2 k ⟨256 + (j 1).val, by have := (j 1).isLt; simp at this; omega⟩)) := by
  unfold gated
  pointwise [k0_pay3, k0_pay1]

/-- The blocks a point reads and writes. -/
theorem idx : ∀ t : Fin cfg0.N, win0_0.index t = ![t.val / 11, 0] ∧ win0_1.index t = ![0, t.val % 11] ∧ win0_2.index t = ![t.val / 11, t.val % 11]
    ∧ win0_3.index t = ![t.val / 11, t.val % 11] :=
  (by decide +kernel : ∀ t : Fin grid0.N, _)

/-- The product, its columns in pairs. -/
def gu (X0 : FVec Ideal S4096x1024 .bf16) (X1 : FVec Ideal S1024x5632 .bf16) : FVec Ideal S4096x5632 .bf16 := fun j =>
  ∑ l : Fin 1024, X0 (ix2 (j 0) l) * X1 (ix2 l (pairCol (j 1)))

/-- The gated activation of a product. -/
def act (X0 : FVec Ideal S4096x1024 .bf16) (X1 : FVec Ideal S1024x5632 .bf16) : FVec Ideal S4096x2816 .bf16 := fun j =>
  gated (∑ l : Fin 1024, X0 (ix2 (j 0) l) * X1 (ix2 l ⟨(j 1).val, by have := (j 1).isLt; simp at this; omega⟩))
    (∑ l : Fin 1024, X0 (ix2 (j 0) l) * X1 (ix2 l ⟨2816 + (j 1).val, by have := (j 1).isLt; simp at this; omega⟩))

variable (m : (ℓ : Loc nD τ sig) → Buf (Elt Ideal) ℓ)

/-- The weight as the call takes it, its columns in pairs. -/
theorem weight (c : Dev nD) : V m c main_v2 = fun j : S1024x5632.Idx => (m ((c : Thread nD τ).loc main_arg1) : FVec Ideal S1024x5632 .bf16) (ix2 (j 0) (pairCol (j 1))) := by
  unfold V; after_results
  funext j
  pointwise [pairCol]

/-- The product's array after the run. -/
theorem final2 (c : Dev nD) : (dats m 0 c).arrAt 2 (cfgs 0).N
    = gu (m ((c : Thread nD τ).loc main_arg0)) (m ((c : Thread nD τ).loc main_arg1)) := by
  refine (dats m 0 c).arrAt_eq_of_covers 2 _ (by decide +kernel) fun t _ y => ?_
  blk_simp
  rw [after0_2]; unfold out0_2; frame_out
  rw [hpay2]
  unfold gu
  refine Fin.sum_fin_congr fun k => ?_
  blk_point [iblk, V, idx t, pairCol]

/-- The activation's array after the run. -/
theorem final3 (c : Dev nD) : (dats m 0 c).arrAt 3 (cfgs 0).N
    = act (m ((c : Thread nD τ).loc main_arg0)) (m ((c : Thread nD τ).loc main_arg1)) := by
  refine (dats m 0 c).arrAt_eq_of_covers 3 _ (by decide +kernel) fun t _ y => ?_
  blk_simp
  rw [after0_3]; unfold out0_3; frame_out
  rw [hpay3]
  unfold act
  refine congrArg₂ gated (Fin.sum_fin_congr fun k => ?_) (Fin.sum_fin_congr fun k => ?_) <;> blk_point [iblk, V, idx t, pairCol]

/-- The reference's product, its columns in pairs. -/
theorem ref_gu (X0 : FVec Ideal S4096x1024 .bf16) (X1 : FVec Ideal S1024x5632 .bf16) (j) :
    (truncf .bf16 (shapeCast _ (transpose Cert.GateUpRefIdeal.S4096x11x2x256 [0, 2, 1, 3] (shapeCast _ (Host.dotGeneral Cert.GateUpRefIdeal.dot_S4096x1024_S1024x5632_S4096x5632_1_0_0_1_n_n none (extf .f32 X0 Cert.GateUpRefIdeal.Gen.bitsLt_bf16_f32) (extf .f32 X1 Cert.GateUpRefIdeal.Gen.bitsLt_bf16_f32)) Cert.GateUpRefIdeal.Gen.shapeCasts_S4096x5632_S4096x2x11x256) Cert.GateUpRefIdeal.Gen.transposes_S4096x2x11x256_S4096x11x2x256_0_2_1_3) Cert.GateUpRefIdeal.Gen.shapeCasts_S4096x11x2x256_S4096x5632) Cert.GateUpRefIdeal.Gen.bitsLt_bf16_f32) j = gu X0 X1 j := by
  pointwise [gu, pairCol]

/-- The reference's activation. -/
theorem ref_act (X0 : FVec Ideal S4096x1024 .bf16) (X1 : FVec Ideal S1024x5632 .bf16) (j) :
    (truncf .bf16 (mulf (mulf (extractStridedSlice Cert.GateUpRefIdeal.S4096x2816 ![0, 0] (Host.dotGeneral Cert.GateUpRefIdeal.dot_S4096x1024_S1024x5632_S4096x5632_1_0_0_1_n_n none (extf .f32 X0 Cert.GateUpRefIdeal.Gen.bitsLt_bf16_f32) (extf .f32 X1 Cert.GateUpRefIdeal.Gen.bitsLt_bf16_f32)) Cert.GateUpRefIdeal.Gen.slices_S4096x5632_S4096x2816_0_0) (Host.divf (broadcastInDim Cert.GateUpRefIdeal.S4096x2816 ![] Cert.GateUpRefIdeal.Gen.bcast_S_S4096x2816 (constant Cert.GateUpRefIdeal.S_ .f32 0x3F800000#32)) (addf (broadcastInDim Cert.GateUpRefIdeal.S4096x2816 ![] Cert.GateUpRefIdeal.Gen.bcast_S_S4096x2816 (constant Cert.GateUpRefIdeal.S_ .f32 0x3F800000#32)) (Host.exp (Host.negf (extractStridedSlice Cert.GateUpRefIdeal.S4096x2816 ![0, 0] (Host.dotGeneral Cert.GateUpRefIdeal.dot_S4096x1024_S1024x5632_S4096x5632_1_0_0_1_n_n none (extf .f32 X0 Cert.GateUpRefIdeal.Gen.bitsLt_bf16_f32) (extf .f32 X1 Cert.GateUpRefIdeal.Gen.bitsLt_bf16_f32)) Cert.GateUpRefIdeal.Gen.slices_S4096x5632_S4096x2816_0_0)))))) (extractStridedSlice Cert.GateUpRefIdeal.S4096x2816 ![0, 2816] (Host.dotGeneral Cert.GateUpRefIdeal.dot_S4096x1024_S1024x5632_S4096x5632_1_0_0_1_n_n none (extf .f32 X0 Cert.GateUpRefIdeal.Gen.bitsLt_bf16_f32) (extf .f32 X1 Cert.GateUpRefIdeal.Gen.bitsLt_bf16_f32)) Cert.GateUpRefIdeal.Gen.slices_S4096x5632_S4096x2816_0_2816)) Cert.GateUpRefIdeal.Gen.bitsLt_bf16_f32) j = act X0 X1 j := by
  pointwise [act, gated]
  rfl

/-- The kernel's run: its results are the product and the activation of its arguments, which stay. -/
theorem run_kernel (g : Dev nD → PrngReg) :
    θ_run (defs (F := Ideal)) (onTc (τ := τ) (main (F := Ideal))) ⟨m, fun _ => 0, g⟩ (fun r => ∀ c : Dev nD,
      r.2.mem ((c.tc : Thread nD τ).loc main_v3_0) = gu (m ((c : Thread nD τ).loc main_arg0)) (m ((c : Thread nD τ).loc main_arg1))
      ∧ r.2.mem ((c.tc : Thread nD τ).loc main_v3_1) = act (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (final2 m c), (h c).2.1.trans (final3 m c), (h c).2.2⟩) (Value.run_blocks m g)

/-- The reference runs to its end and leaves its arguments as they were. -/
theorem ref_frame : Cert.quiescent_GateUpRefIdeal := fun m ρ _ =>
  (θ_run Cert.GateUpRefIdeal.defs _ _).mono (fun r h => ⟨fun c => (h c).2.2, sem_eq_zero_of_no_sems (by decide) r.2⟩)
    (Cert.GateUpRefIdeal.Value.run m ρ)

/-- The kernel's results are the reference's, over the extended reals. -/
theorem algebraic : Cert.algebraic_GateUpIdeal_GateUpRefIdeal := by
  intro m g m' g' _ hagree
  refine ⟨_, _, run_kernel m g, (θ_run Cert.GateUpRefIdeal.defs _ _).mono (fun r h c => ?_) (Cert.GateUpRefIdeal.Value.run m' g')⟩
  obtain ⟨h0, h1⟩ := hagree c
  rw [← h0, ← h1]
  exact ⟨(h c).1.trans (funext fun j => ref_gu _ _ j), (h c).2.1.trans (funext fun j => ref_act _ _ j), (h c).2.2⟩

end Cert.GateUpIdeal.Mm
-- ==== Proof.DAct.lean ====
module

public import proofs.«01_k».proof.Proof.Gen.DActIdeal.Value
public import proofs.«01_k».proof.Proof.Gen.DActRefIdeal.Run
public import proofs.«01_k».proof.Proof.Pairs
public import proofs.«01_k».proof.Defs

@[expose] public section

set_option maxRecDepth 16384

noncomputable section

namespace Cert.DActIdeal.Mm
open Cert.DActIdeal Cert.DActIdeal.Gen Cert.Products Idealize.ShloMosaic Idealize.ShloMosaic.TcCoe Idealize.SL.Sem
open Idealize.ShloMosaic.Pipeline (Dat)

/-- In the columns of the gate a point stores the gradient with respect to the gate. -/
theorem hpay_gate (x0 x1 x2 j) (h : (j 1).val < 256) : k0_pay1 (F := Ideal) x0 x1 x2 j
    = dGate (∑ k : Fin 1024, x0 (ix2 (j 0) k) * x1 (ix2 ⟨(j 1).val, h⟩ k)) (x2 (ix2 (j 0) ⟨(j 1).val, by have := (j 1).isLt; simp at this; omega⟩)) (x2 (ix2 (j 0) ⟨256 + (j 1).val, by have := (j 1).isLt; simp at this; omega⟩)) := by
  unfold dGate
  pointwise [k0_pay1]
  rw [dif_pos h]

/-- In the other columns it stores the gradient with respect to the other half. -/
theorem hpay_up (x0 x1 x2 j) (h : 256 ≤ (j 1).val) : k0_pay1 (F := Ideal) x0 x1 x2 j
    = dUp (∑ k : Fin 1024, x0 (ix2 (j 0) k) * x1 (ix2 ⟨(j 1).val - 256, by have := (j 1).isLt; simp at this; omega⟩ k)) (x2 (ix2 (j 0) ⟨(j 1).val - 256, by have := (j 1).isLt; simp at this; omega⟩)) := by
  unfold dUp
  pointwise [k0_pay1]
  rw [dif_neg (by omega)]

/-- The blocks a point reads and writes. -/
theorem idx : ∀ t : Fin cfg0.N, win0_0.index t = ![t.val / 11, 0] ∧ win0_1.index t = ![t.val % 11, 0] ∧ win0_2.index t = ![t.val / 11, t.val % 11]
    ∧ win0_3.index t = ![t.val / 11, t.val % 11] :=
  (by decide +kernel : ∀ t : Fin grid0.N, _)

/-- The gradient of the gated units, its columns in pairs. -/
def dGu (X0 : FVec Ideal S4096x1024 .bf16) (X1 : FVec Ideal S2816x1024 .bf16) (X2 : FVec Ideal S4096x5632 .bf16) : FVec Ideal S4096x5632 .bf16 := fun j =>
  if (j 1).val % 512 < 256 then dGate (∑ k : Fin 1024, X0 (ix2 (j 0) k) * X1 (ix2 (unitAt (j 1)) k))
      (X2 (ix2 (j 0) ⟨(unitAt (j 1)).val, by have := (unitAt (j 1)).isLt; omega⟩)) (X2 (ix2 (j 0) ⟨2816 + (unitAt (j 1)).val, by have := (unitAt (j 1)).isLt; omega⟩))
  else dUp (∑ k : Fin 1024, X0 (ix2 (j 0) k) * X1 (ix2 (unitAt (j 1)) k)) (X2 (ix2 (j 0) ⟨(unitAt (j 1)).val, by have := (unitAt (j 1)).isLt; omega⟩))

variable (m : (ℓ : Loc nD τ sig) → Buf (Elt Ideal) ℓ)

/-- The saved product as the call takes it, its columns in pairs. -/
theorem saved (c : Dev nD) : V m c main_v2 = fun j : S4096x5632.Idx => (m ((c : Thread nD τ).loc main_arg2) : FVec Ideal S4096x5632 .bf16) (ix2 (j 0) (pairCol (j 1))) := by
  unfold V; after_results
  funext j
  pointwise [pairCol]

/-- The result's array after the run. -/
theorem final (c : Dev nD) : (dats m 0 c).arrAt 3 (cfgs 0).N
    = dGu (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold out0_3; frame_out
  unfold dGu
  have hy : (y 1).val < 512 := (y 1).isLt
  have e : (((View.whole main_v3).slice (win0_3.rect t)).emb y 1).val = t.val % 11 * 512 + (y 1).val := by blk_point [idx t]
  by_cases h : (y 1).val < 256
  · rw [hpay_gate _ _ _ _ h, if_pos (by rw [e]; omega)]
    congr 1
    · refine Fin.sum_fin_congr fun k => ?_
      blk_point [iblk, V, idx t, unitAt]
    · blk_point [iblk, saved, idx t, unitAt, pairCol]
    · blk_point [iblk, saved, idx t, unitAt, pairCol]
  · rw [hpay_up _ _ _ _ (by omega), if_neg (by rw [e]; omega)]
    congr 1
    · refine Fin.sum_fin_congr fun k => ?_
      blk_point [iblk, V, idx t, unitAt]
    · blk_point [iblk, saved, idx t, unitAt, pairCol]

/-- The kernel's run: its result is that gradient, and its arguments stay. -/
theorem run_kernel (g : Dev nD → PrngReg) :
    θ_run (defs (F := Ideal)) (onTc (τ := τ) (main (F := Ideal))) ⟨m, fun _ => 0, g⟩ (fun r => ∀ c : Dev nD,
      r.2.mem ((c.tc : Thread nD τ).loc main_v3) = dGu (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final m c), (h c).2⟩) (Value.run_blocks m g)

/-- The side conditions of the precondition's operations. -/
instance : Cert.Pre_finite.Facts where
  bcast_S_S4096x1024 := by decide
  reducesTo_S4096x1024_S_d0_1 := by decide
  h_S_ := by decide
  bcast_S_S2816x1024 := by decide
  reducesTo_S2816x1024_S_d0_1 := by decide
  bcast_S_S4096x5632 := by decide
  reducesTo_S4096x5632_S_d0_1 := by decide

/-- Any two indices of a single number are one. -/
instance : Subsingleton Cert.Pre_finite.S_.Idx := ⟨fun a b => funext fun i => i.elim0⟩

/-- The precondition says that every number of the three arrays is finite. -/
theorem finite_of_pre (X0 : FVec Ideal S4096x1024 .bf16) (X1 : FVec Ideal S2816x1024 .bf16) (X2 : FVec Ideal S4096x5632 .bf16) (h : Cert.Pre_finite.fn (F := Ideal) X0 X1 X2 = fun _ => 1#1) :
    (∀ i, ∃ r : ℝ, X0 i = r) ∧ (∀ i, ∃ r : ℝ, X1 i = r) ∧ ∀ i, ∃ r : ℝ, X2 i = r := by
  have h := congrFun h fun i => i.elim0
  obtain ⟨h01, h2⟩ := IntOp.andi_eq_one.1 h
  obtain ⟨h0, h1⟩ := IntOp.andi_eq_one.1 h01
  exact ⟨fun i => real_of_abs_lt (Host.reduce_andi_all _ _ _ _ _ h0 i), fun i => real_of_abs_lt (Host.reduce_andi_all _ _ _ _ _ h1 i),
    fun i => real_of_abs_lt (Host.reduce_andi_all _ _ _ _ _ h2 i)⟩

/-- The reference's gradient in the columns of the gate. -/
theorem ref_gate (X0 : FVec Ideal S4096x1024 .bf16) (X1 : FVec Ideal S2816x1024 .bf16) (X2 : FVec Ideal S4096x5632 .bf16) (j) (h : (j 1).val % 512 < 256) :
    (truncf .bf16 (shapeCast _ (transpose Cert.DActRefIdeal.S4096x11x2x256 [0, 2, 1, 3] (shapeCast _ (concatenate Cert.DActRefIdeal.S4096x5632 1 [⟨Cert.DActRefIdeal.S4096x2816, (addf (mulf (mulf (Host.dotGeneral Cert.DActRefIdeal.dot_S4096x1024_S2816x1024_S4096x2816_1_1_0_0_n_n none (extf .f32 X0 Cert.DActRefIdeal.Gen.bitsLt_bf16_f32) (extf .f32 X1 Cert.DActRefIdeal.Gen.bitsLt_bf16_f32)) (extractStridedSlice Cert.DActRefIdeal.S4096x2816 ![0, 2816] (extf .f32 X2 Cert.DActRefIdeal.Gen.bitsLt_bf16_f32) Cert.DActRefIdeal.Gen.slices_S4096x5632_S4096x2816_0_2816)) (Host.divf (broadcastInDim Cert.DActRefIdeal.S4096x2816 ![] Cert.DActRefIdeal.Gen.bcast_S_S4096x2816 (constant Cert.DActRefIdeal.S_ .f32 0x3F800000#32)) (addf (broadcastInDim Cert.DActRefIdeal.S4096x2816 ![] Cert.DActRefIdeal.Gen.bcast_S_S4096x2816 (constant Cert.DActRefIdeal.S_ .f32 0x3F800000#32)) (Host.exp (Host.negf (extractStridedSlice Cert.DActRefIdeal.S4096x2816 ![0, 0] (extf .f32 X2 Cert.DActRefIdeal.Gen.bitsLt_bf16_f32) Cert.DActRefIdeal.Gen.slices_S4096x5632_S4096x2816_0_0)))))) (mulf (mulf (extractStridedSlice Cert.DActRefIdeal.S4096x2816 ![0, 0] (extf .f32 X2 Cert.DActRefIdeal.Gen.bitsLt_bf16_f32) Cert.DActRefIdeal.Gen.slices_S4096x5632_S4096x2816_0_0) (mulf (Host.dotGeneral Cert.DActRefIdeal.dot_S4096x1024_S2816x1024_S4096x2816_1_1_0_0_n_n none (extf .f32 X0 Cert.DActRefIdeal.Gen.bitsLt_bf16_f32) (extf .f32 X1 Cert.DActRefIdeal.Gen.bitsLt_bf16_f32)) (extractStridedSlice Cert.DActRefIdeal.S4096x2816 ![0, 2816] (extf .f32 X2 Cert.DActRefIdeal.Gen.bitsLt_bf16_f32) Cert.DActRefIdeal.Gen.slices_S4096x5632_S4096x2816_0_2816))) (mulf (Host.divf (broadcastInDim Cert.DActRefIdeal.S4096x2816 ![] Cert.DActRefIdeal.Gen.bcast_S_S4096x2816 (constant Cert.DActRefIdeal.S_ .f32 0x3F800000#32)) (addf (broadcastInDim Cert.DActRefIdeal.S4096x2816 ![] Cert.DActRefIdeal.Gen.bcast_S_S4096x2816 (constant Cert.DActRefIdeal.S_ .f32 0x3F800000#32)) (Host.exp (Host.negf (extractStridedSlice Cert.DActRefIdeal.S4096x2816 ![0, 0] (extf .f32 X2 Cert.DActRefIdeal.Gen.bitsLt_bf16_f32) Cert.DActRefIdeal.Gen.slices_S4096x5632_S4096x2816_0_0))))) (subf (broadcastInDim Cert.DActRefIdeal.S4096x2816 ![] Cert.DActRefIdeal.Gen.bcast_S_S4096x2816 (constant Cert.DActRefIdeal.S_ .f32 0x3F800000#32)) (Host.divf (broadcastInDim Cert.DActRefIdeal.S4096x2816 ![] Cert.DActRefIdeal.Gen.bcast_S_S4096x2816 (constant Cert.DActRefIdeal.S_ .f32 0x3F800000#32)) (addf (broadcastInDim Cert.DActRefIdeal.S4096x2816 ![] Cert.DActRefIdeal.Gen.bcast_S_S4096x2816 (constant Cert.DActRefIdeal.S_ .f32 0x3F800000#32)) (Host.exp (Host.negf (extractStridedSlice Cert.DActRefIdeal.S4096x2816 ![0, 0] (extf .f32 X2 Cert.DActRefIdeal.Gen.bitsLt_bf16_f32) Cert.DActRefIdeal.Gen.slices_S4096x5632_S4096x2816_0_0)))))))))⟩, ⟨Cert.DActRefIdeal.S4096x2816, (mulf (mulf (extractStridedSlice Cert.DActRefIdeal.S4096x2816 ![0, 0] (extf .f32 X2 Cert.DActRefIdeal.Gen.bitsLt_bf16_f32) Cert.DActRefIdeal.Gen.slices_S4096x5632_S4096x2816_0_0) (Host.divf (broadcastInDim Cert.DActRefIdeal.S4096x2816 ![] Cert.DActRefIdeal.Gen.bcast_S_S4096x2816 (constant Cert.DActRefIdeal.S_ .f32 0x3F800000#32)) (addf (broadcastInDim Cert.DActRefIdeal.S4096x2816 ![] Cert.DActRefIdeal.Gen.bcast_S_S4096x2816 (constant Cert.DActRefIdeal.S_ .f32 0x3F800000#32)) (Host.exp (Host.negf (extractStridedSlice Cert.DActRefIdeal.S4096x2816 ![0, 0] (extf .f32 X2 Cert.DActRefIdeal.Gen.bitsLt_bf16_f32) Cert.DActRefIdeal.Gen.slices_S4096x5632_S4096x2816_0_0)))))) (Host.dotGeneral Cert.DActRefIdeal.dot_S4096x1024_S2816x1024_S4096x2816_1_1_0_0_n_n none (extf .f32 X0 Cert.DActRefIdeal.Gen.bitsLt_bf16_f32) (extf .f32 X1 Cert.DActRefIdeal.Gen.bitsLt_bf16_f32)))⟩] Cert.DActRefIdeal.Gen.concatenates_S4096x2816_S4096x2816_S4096x5632_d1) Cert.DActRefIdeal.Gen.shapeCasts_S4096x5632_S4096x2x11x256) Cert.DActRefIdeal.Gen.transposes_S4096x2x11x256_S4096x11x2x256_0_2_1_3) Cert.DActRefIdeal.Gen.shapeCasts_S4096x11x2x256_S4096x5632) Cert.DActRefIdeal.Gen.bitsLt_bf16_f32) j
      = (∑ k : Fin 1024, X0 (ix2 (j 0) k) * X1 (ix2 (unitAt (j 1)) k)) * X2 (ix2 (j 0) ⟨2816 + (unitAt (j 1)).val, by have := (unitAt (j 1)).isLt; omega⟩)
          * Ideal.logistic (X2 (ix2 (j 0) ⟨(unitAt (j 1)).val, by have := (unitAt (j 1)).isLt; omega⟩))
        + X2 (ix2 (j 0) ⟨(unitAt (j 1)).val, by have := (unitAt (j 1)).isLt; omega⟩)
          * ((∑ k : Fin 1024, X0 (ix2 (j 0) k) * X1 (ix2 (unitAt (j 1)) k)) * X2 (ix2 (j 0) ⟨2816 + (unitAt (j 1)).val, by have := (unitAt (j 1)).isLt; omega⟩))
          * (Ideal.logistic (X2 (ix2 (j 0) ⟨(unitAt (j 1)).val, by have := (unitAt (j 1)).isLt; omega⟩))
            * (1 - Ideal.logistic (X2 (ix2 (j 0) ⟨(unitAt (j 1)).val, by have := (unitAt (j 1)).isLt; omega⟩)))) := by
  have e : (j 1).val / 256 % 2 = 0 := by omega
  have hj : (j 1).val < 5632 := (j 1).isLt
  pointwise [unitAt, Ideal.logistic]
  simp only [e, Nat.zero_mul, Nat.zero_add]
  rw [dif_pos (by omega)]

/-- The reference's gradient in the other columns. -/
theorem ref_up (X0 : FVec Ideal S4096x1024 .bf16) (X1 : FVec Ideal S2816x1024 .bf16) (X2 : FVec Ideal S4096x5632 .bf16) (j) (h : ¬ (j 1).val % 512 < 256) :
    (truncf .bf16 (shapeCast _ (transpose Cert.DActRefIdeal.S4096x11x2x256 [0, 2, 1, 3] (shapeCast _ (concatenate Cert.DActRefIdeal.S4096x5632 1 [⟨Cert.DActRefIdeal.S4096x2816, (addf (mulf (mulf (Host.dotGeneral Cert.DActRefIdeal.dot_S4096x1024_S2816x1024_S4096x2816_1_1_0_0_n_n none (extf .f32 X0 Cert.DActRefIdeal.Gen.bitsLt_bf16_f32) (extf .f32 X1 Cert.DActRefIdeal.Gen.bitsLt_bf16_f32)) (extractStridedSlice Cert.DActRefIdeal.S4096x2816 ![0, 2816] (extf .f32 X2 Cert.DActRefIdeal.Gen.bitsLt_bf16_f32) Cert.DActRefIdeal.Gen.slices_S4096x5632_S4096x2816_0_2816)) (Host.divf (broadcastInDim Cert.DActRefIdeal.S4096x2816 ![] Cert.DActRefIdeal.Gen.bcast_S_S4096x2816 (constant Cert.DActRefIdeal.S_ .f32 0x3F800000#32)) (addf (broadcastInDim Cert.DActRefIdeal.S4096x2816 ![] Cert.DActRefIdeal.Gen.bcast_S_S4096x2816 (constant Cert.DActRefIdeal.S_ .f32 0x3F800000#32)) (Host.exp (Host.negf (extractStridedSlice Cert.DActRefIdeal.S4096x2816 ![0, 0] (extf .f32 X2 Cert.DActRefIdeal.Gen.bitsLt_bf16_f32) Cert.DActRefIdeal.Gen.slices_S4096x5632_S4096x2816_0_0)))))) (mulf (mulf (extractStridedSlice Cert.DActRefIdeal.S4096x2816 ![0, 0] (extf .f32 X2 Cert.DActRefIdeal.Gen.bitsLt_bf16_f32) Cert.DActRefIdeal.Gen.slices_S4096x5632_S4096x2816_0_0) (mulf (Host.dotGeneral Cert.DActRefIdeal.dot_S4096x1024_S2816x1024_S4096x2816_1_1_0_0_n_n none (extf .f32 X0 Cert.DActRefIdeal.Gen.bitsLt_bf16_f32) (extf .f32 X1 Cert.DActRefIdeal.Gen.bitsLt_bf16_f32)) (extractStridedSlice Cert.DActRefIdeal.S4096x2816 ![0, 2816] (extf .f32 X2 Cert.DActRefIdeal.Gen.bitsLt_bf16_f32) Cert.DActRefIdeal.Gen.slices_S4096x5632_S4096x2816_0_2816))) (mulf (Host.divf (broadcastInDim Cert.DActRefIdeal.S4096x2816 ![] Cert.DActRefIdeal.Gen.bcast_S_S4096x2816 (constant Cert.DActRefIdeal.S_ .f32 0x3F800000#32)) (addf (broadcastInDim Cert.DActRefIdeal.S4096x2816 ![] Cert.DActRefIdeal.Gen.bcast_S_S4096x2816 (constant Cert.DActRefIdeal.S_ .f32 0x3F800000#32)) (Host.exp (Host.negf (extractStridedSlice Cert.DActRefIdeal.S4096x2816 ![0, 0] (extf .f32 X2 Cert.DActRefIdeal.Gen.bitsLt_bf16_f32) Cert.DActRefIdeal.Gen.slices_S4096x5632_S4096x2816_0_0))))) (subf (broadcastInDim Cert.DActRefIdeal.S4096x2816 ![] Cert.DActRefIdeal.Gen.bcast_S_S4096x2816 (constant Cert.DActRefIdeal.S_ .f32 0x3F800000#32)) (Host.divf (broadcastInDim Cert.DActRefIdeal.S4096x2816 ![] Cert.DActRefIdeal.Gen.bcast_S_S4096x2816 (constant Cert.DActRefIdeal.S_ .f32 0x3F800000#32)) (addf (broadcastInDim Cert.DActRefIdeal.S4096x2816 ![] Cert.DActRefIdeal.Gen.bcast_S_S4096x2816 (constant Cert.DActRefIdeal.S_ .f32 0x3F800000#32)) (Host.exp (Host.negf (extractStridedSlice Cert.DActRefIdeal.S4096x2816 ![0, 0] (extf .f32 X2 Cert.DActRefIdeal.Gen.bitsLt_bf16_f32) Cert.DActRefIdeal.Gen.slices_S4096x5632_S4096x2816_0_0)))))))))⟩, ⟨Cert.DActRefIdeal.S4096x2816, (mulf (mulf (extractStridedSlice Cert.DActRefIdeal.S4096x2816 ![0, 0] (extf .f32 X2 Cert.DActRefIdeal.Gen.bitsLt_bf16_f32) Cert.DActRefIdeal.Gen.slices_S4096x5632_S4096x2816_0_0) (Host.divf (broadcastInDim Cert.DActRefIdeal.S4096x2816 ![] Cert.DActRefIdeal.Gen.bcast_S_S4096x2816 (constant Cert.DActRefIdeal.S_ .f32 0x3F800000#32)) (addf (broadcastInDim Cert.DActRefIdeal.S4096x2816 ![] Cert.DActRefIdeal.Gen.bcast_S_S4096x2816 (constant Cert.DActRefIdeal.S_ .f32 0x3F800000#32)) (Host.exp (Host.negf (extractStridedSlice Cert.DActRefIdeal.S4096x2816 ![0, 0] (extf .f32 X2 Cert.DActRefIdeal.Gen.bitsLt_bf16_f32) Cert.DActRefIdeal.Gen.slices_S4096x5632_S4096x2816_0_0)))))) (Host.dotGeneral Cert.DActRefIdeal.dot_S4096x1024_S2816x1024_S4096x2816_1_1_0_0_n_n none (extf .f32 X0 Cert.DActRefIdeal.Gen.bitsLt_bf16_f32) (extf .f32 X1 Cert.DActRefIdeal.Gen.bitsLt_bf16_f32)))⟩] Cert.DActRefIdeal.Gen.concatenates_S4096x2816_S4096x2816_S4096x5632_d1) Cert.DActRefIdeal.Gen.shapeCasts_S4096x5632_S4096x2x11x256) Cert.DActRefIdeal.Gen.transposes_S4096x2x11x256_S4096x11x2x256_0_2_1_3) Cert.DActRefIdeal.Gen.shapeCasts_S4096x11x2x256_S4096x5632) Cert.DActRefIdeal.Gen.bitsLt_bf16_f32) j
      = X2 (ix2 (j 0) ⟨(unitAt (j 1)).val, by have := (unitAt (j 1)).isLt; omega⟩)
          * Ideal.logistic (X2 (ix2 (j 0) ⟨(unitAt (j 1)).val, by have := (unitAt (j 1)).isLt; omega⟩))
          * ∑ k : Fin 1024, X0 (ix2 (j 0) k) * X1 (ix2 (unitAt (j 1)) k) := by
  have e : (j 1).val / 256 % 2 = 1 := by omega
  have hj : (j 1).val < 5632 := (j 1).isLt
  have e' : 2816 + (j 1).val / 512 * 256 + (j 1).val % 256 - 2816 = (j 1).val / 512 * 256 + (j 1).val % 256 := by omega
  pointwise [unitAt, Ideal.logistic]
  simp only [e, Nat.one_mul, e']
  rw [dif_neg (by omega)]

/-- The reference's gradient is the kernel's, where the arrays are finite. -/
theorem ref_eq (X0 : FVec Ideal S4096x1024 .bf16) (X1 : FVec Ideal S2816x1024 .bf16) (X2 : FVec Ideal S4096x5632 .bf16) (hX : (∀ i, ∃ r : ℝ, X0 i = r) ∧ (∀ i, ∃ r : ℝ, X1 i = r) ∧ ∀ i, ∃ r : ℝ, X2 i = r) :
    truncf .bf16 (shapeCast _ (transpose Cert.DActRefIdeal.S4096x11x2x256 [0, 2, 1, 3] (shapeCast _ (concatenate Cert.DActRefIdeal.S4096x5632 1 [⟨Cert.DActRefIdeal.S4096x2816, (addf (mulf (mulf (Host.dotGeneral Cert.DActRefIdeal.dot_S4096x1024_S2816x1024_S4096x2816_1_1_0_0_n_n none (extf .f32 X0 Cert.DActRefIdeal.Gen.bitsLt_bf16_f32) (extf .f32 X1 Cert.DActRefIdeal.Gen.bitsLt_bf16_f32)) (extractStridedSlice Cert.DActRefIdeal.S4096x2816 ![0, 2816] (extf .f32 X2 Cert.DActRefIdeal.Gen.bitsLt_bf16_f32) Cert.DActRefIdeal.Gen.slices_S4096x5632_S4096x2816_0_2816)) (Host.divf (broadcastInDim Cert.DActRefIdeal.S4096x2816 ![] Cert.DActRefIdeal.Gen.bcast_S_S4096x2816 (constant Cert.DActRefIdeal.S_ .f32 0x3F800000#32)) (addf (broadcastInDim Cert.DActRefIdeal.S4096x2816 ![] Cert.DActRefIdeal.Gen.bcast_S_S4096x2816 (constant Cert.DActRefIdeal.S_ .f32 0x3F800000#32)) (Host.exp (Host.negf (extractStridedSlice Cert.DActRefIdeal.S4096x2816 ![0, 0] (extf .f32 X2 Cert.DActRefIdeal.Gen.bitsLt_bf16_f32) Cert.DActRefIdeal.Gen.slices_S4096x5632_S4096x2816_0_0)))))) (mulf (mulf (extractStridedSlice Cert.DActRefIdeal.S4096x2816 ![0, 0] (extf .f32 X2 Cert.DActRefIdeal.Gen.bitsLt_bf16_f32) Cert.DActRefIdeal.Gen.slices_S4096x5632_S4096x2816_0_0) (mulf (Host.dotGeneral Cert.DActRefIdeal.dot_S4096x1024_S2816x1024_S4096x2816_1_1_0_0_n_n none (extf .f32 X0 Cert.DActRefIdeal.Gen.bitsLt_bf16_f32) (extf .f32 X1 Cert.DActRefIdeal.Gen.bitsLt_bf16_f32)) (extractStridedSlice Cert.DActRefIdeal.S4096x2816 ![0, 2816] (extf .f32 X2 Cert.DActRefIdeal.Gen.bitsLt_bf16_f32) Cert.DActRefIdeal.Gen.slices_S4096x5632_S4096x2816_0_2816))) (mulf (Host.divf (broadcastInDim Cert.DActRefIdeal.S4096x2816 ![] Cert.DActRefIdeal.Gen.bcast_S_S4096x2816 (constant Cert.DActRefIdeal.S_ .f32 0x3F800000#32)) (addf (broadcastInDim Cert.DActRefIdeal.S4096x2816 ![] Cert.DActRefIdeal.Gen.bcast_S_S4096x2816 (constant Cert.DActRefIdeal.S_ .f32 0x3F800000#32)) (Host.exp (Host.negf (extractStridedSlice Cert.DActRefIdeal.S4096x2816 ![0, 0] (extf .f32 X2 Cert.DActRefIdeal.Gen.bitsLt_bf16_f32) Cert.DActRefIdeal.Gen.slices_S4096x5632_S4096x2816_0_0))))) (subf (broadcastInDim Cert.DActRefIdeal.S4096x2816 ![] Cert.DActRefIdeal.Gen.bcast_S_S4096x2816 (constant Cert.DActRefIdeal.S_ .f32 0x3F800000#32)) (Host.divf (broadcastInDim Cert.DActRefIdeal.S4096x2816 ![] Cert.DActRefIdeal.Gen.bcast_S_S4096x2816 (constant Cert.DActRefIdeal.S_ .f32 0x3F800000#32)) (addf (broadcastInDim Cert.DActRefIdeal.S4096x2816 ![] Cert.DActRefIdeal.Gen.bcast_S_S4096x2816 (constant Cert.DActRefIdeal.S_ .f32 0x3F800000#32)) (Host.exp (Host.negf (extractStridedSlice Cert.DActRefIdeal.S4096x2816 ![0, 0] (extf .f32 X2 Cert.DActRefIdeal.Gen.bitsLt_bf16_f32) Cert.DActRefIdeal.Gen.slices_S4096x5632_S4096x2816_0_0)))))))))⟩, ⟨Cert.DActRefIdeal.S4096x2816, (mulf (mulf (extractStridedSlice Cert.DActRefIdeal.S4096x2816 ![0, 0] (extf .f32 X2 Cert.DActRefIdeal.Gen.bitsLt_bf16_f32) Cert.DActRefIdeal.Gen.slices_S4096x5632_S4096x2816_0_0) (Host.divf (broadcastInDim Cert.DActRefIdeal.S4096x2816 ![] Cert.DActRefIdeal.Gen.bcast_S_S4096x2816 (constant Cert.DActRefIdeal.S_ .f32 0x3F800000#32)) (addf (broadcastInDim Cert.DActRefIdeal.S4096x2816 ![] Cert.DActRefIdeal.Gen.bcast_S_S4096x2816 (constant Cert.DActRefIdeal.S_ .f32 0x3F800000#32)) (Host.exp (Host.negf (extractStridedSlice Cert.DActRefIdeal.S4096x2816 ![0, 0] (extf .f32 X2 Cert.DActRefIdeal.Gen.bitsLt_bf16_f32) Cert.DActRefIdeal.Gen.slices_S4096x5632_S4096x2816_0_0)))))) (Host.dotGeneral Cert.DActRefIdeal.dot_S4096x1024_S2816x1024_S4096x2816_1_1_0_0_n_n none (extf .f32 X0 Cert.DActRefIdeal.Gen.bitsLt_bf16_f32) (extf .f32 X1 Cert.DActRefIdeal.Gen.bitsLt_bf16_f32)))⟩] Cert.DActRefIdeal.Gen.concatenates_S4096x2816_S4096x2816_S4096x5632_d1) Cert.DActRefIdeal.Gen.shapeCasts_S4096x5632_S4096x2x11x256) Cert.DActRefIdeal.Gen.transposes_S4096x2x11x256_S4096x11x2x256_0_2_1_3) Cert.DActRefIdeal.Gen.shapeCasts_S4096x11x2x256_S4096x5632) Cert.DActRefIdeal.Gen.bitsLt_bf16_f32 = dGu X0 X1 X2 := by
  funext j
  unfold dGu
  split
  next h => exact (ref_gate _ _ _ j h).trans (dGate_eq _ _ _ (real_sum (fun _ => hX.1 _) (fun _ => hX.2.1 _)) (hX.2.2 _) (hX.2.2 _))
  next h => exact (ref_up _ _ _ j h).trans (by unfold dUp; rw [mul_comm, mul_assoc])

/-- The reference runs to its end and leaves its arguments as they were. -/
theorem ref_frame : Cert.quiescent_DActRefIdeal := fun m ρ _ =>
  (θ_run Cert.DActRefIdeal.defs _ _).mono (fun r h => ⟨fun c => (h c).2, sem_eq_zero_of_no_sems (by decide) r.2⟩)
    (Cert.DActRefIdeal.Value.run m ρ)

/-- The kernel's result is the reference's, over the extended reals, where the arrays are finite. -/
theorem algebraic : Cert.algebraic_DActIdeal_DActRefIdeal_pre_finite := by
  intro m g m' g' hpre hagree
  refine ⟨_, run_kernel m g, (θ_run Cert.DActRefIdeal.defs _ _).mono (fun r h c => ?_) (Cert.DActRefIdeal.Value.run m' g')⟩
  have hX := finite_of_pre _ _ _ (hpre c)
  obtain ⟨h0, h1, h2⟩ := hagree c
  rw [← h0, ← h1, ← h2]
  exact ⟨(h c).1.trans (ref_eq _ _ _ (h0 ▸ h1 ▸ h2 ▸ hX)), (h c).2⟩

end Cert.DActIdeal.Mm
-- ==== Proof.lean ====
/- The claims of the certificate, each from the module of its call. -/
module

public import proofs.«01_k».proof.Defs
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.DwGateUp
public import proofs.«01_k».proof.Proof.Gen.DwGateUp.Skeleton
public import proofs.«01_k».proof.Proof.Gen.DwGateUp.Launch
public import proofs.«01_k».proof.Proof.Gen.DwGateUp.Points
public import proofs.«01_k».proof.Proof.Gen.DwGateUp.Frame
public import proofs.«01_k».proof.Proof.Gen.DwGateUpIdeal
public import proofs.«01_k».proof.Proof.Gen.DwGateUpIdeal.Skeleton
public import proofs.«01_k».proof.Proof.Gen.DwGateUpIdeal.Launch
public import proofs.«01_k».proof.Proof.Gen.DwGateUpIdeal.Points
public import proofs.«01_k».proof.Proof.Gen.DwGateUpIdeal.Frame
public import proofs.«01_k».proof.Proof.Gen.DwGateUpIdeal.Value
public import proofs.«01_k».proof.Proof.Gen.DwGateUpRefIdeal
public import proofs.«01_k».proof.Proof.Gen.DwGateUpRefIdeal.Run
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwO
public import proofs.«01_k».proof.Proof.Gen.DwO.Skeleton
public import proofs.«01_k».proof.Proof.Gen.DwO.Launch
public import proofs.«01_k».proof.Proof.Gen.DwO.Points
public import proofs.«01_k».proof.Proof.Gen.DwO.Frame
public import proofs.«01_k».proof.Proof.Gen.DwOIdeal
public import proofs.«01_k».proof.Proof.Gen.DwOIdeal.Skeleton
public import proofs.«01_k».proof.Proof.Gen.DwOIdeal.Launch
public import proofs.«01_k».proof.Proof.Gen.DwOIdeal.Points
public import proofs.«01_k».proof.Proof.Gen.DwOIdeal.Frame
public import proofs.«01_k».proof.Proof.Gen.DwOIdeal.Value
public import proofs.«01_k».proof.Proof.Gen.DwORefIdeal
public import proofs.«01_k».proof.Proof.Gen.DwORefIdeal.Run
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DMixed
public import proofs.«01_k».proof.Proof.Gen.DMixed.Skeleton
public import proofs.«01_k».proof.Proof.Gen.DMixed.Launch
public import proofs.«01_k».proof.Proof.Gen.DMixed.Points
public import proofs.«01_k».proof.Proof.Gen.DMixed.Frame
public import proofs.«01_k».proof.Proof.Gen.DMixedIdeal
public import proofs.«01_k».proof.Proof.Gen.DMixedIdeal.Skeleton
public import proofs.«01_k».proof.Proof.Gen.DMixedIdeal.Launch
public import proofs.«01_k».proof.Proof.Gen.DMixedIdeal.Points
public import proofs.«01_k».proof.Proof.Gen.DMixedIdeal.Frame
public import proofs.«01_k».proof.Proof.Gen.DMixedIdeal.Value
public import proofs.«01_k».proof.Proof.Gen.DMixedRefIdeal
public import proofs.«01_k».proof.Proof.Gen.DMixedRefIdeal.Run
public import proofs.«01_k».proof.Proof.Gen.DH
public import proofs.«01_k».proof.Proof.Gen.DH.Skeleton
public import proofs.«01_k».proof.Proof.Gen.DH.Launch
public import proofs.«01_k».proof.Proof.Gen.DH.Points
public import proofs.«01_k».proof.Proof.Gen.DH.Frame
public import proofs.«01_k».proof.Proof.Gen.DHIdeal
public import proofs.«01_k».proof.Proof.Gen.DHIdeal.Skeleton
public import proofs.«01_k».proof.Proof.Gen.DHIdeal.Launch
public import proofs.«01_k».proof.Proof.Gen.DHIdeal.Points
public import proofs.«01_k».proof.Proof.Gen.DHIdeal.Frame
public import proofs.«01_k».proof.Proof.Gen.DHIdeal.Value
public import proofs.«01_k».proof.Proof.Gen.DHRefIdeal
public import proofs.«01_k».proof.Proof.Gen.DHRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpIdeal.Value
public import proofs.«01_k».proof.Proof.Gen.GateUpRefIdeal
public import proofs.«01_k».proof.Proof.Gen.GateUpRefIdeal.Run
public import proofs.«01_k».proof.Proof.Gen.DAct
public import proofs.«01_k».proof.Proof.Gen.DAct.Skeleton
public import proofs.«01_k».proof.Proof.Gen.DAct.Launch
public import proofs.«01_k».proof.Proof.Gen.DAct.Points
public import proofs.«01_k».proof.Proof.Gen.DAct.Frame
public import proofs.«01_k».proof.Proof.Gen.DActIdeal
public import proofs.«01_k».proof.Proof.Gen.DActIdeal.Skeleton
public import proofs.«01_k».proof.Proof.Gen.DActIdeal.Launch
public import proofs.«01_k».proof.Proof.Gen.DActIdeal.Points
public import proofs.«01_k».proof.Proof.Gen.DActIdeal.Frame
public import proofs.«01_k».proof.Proof.Gen.DActIdeal.Value
public import proofs.«01_k».proof.Proof.Gen.DActRefIdeal
public import proofs.«01_k».proof.Proof.Gen.DActRefIdeal.Run
public import proofs.«01_k».proof.Proof.Conv
public import proofs.«01_k».proof.Proof.DwGateUp
public import proofs.«01_k».proof.Proof.DwDown
public import proofs.«01_k».proof.Proof.DwO
public import proofs.«01_k».proof.Proof.DwIn
public import proofs.«01_k».proof.Proof.DMixed
public import proofs.«01_k».proof.Proof.DH
public import proofs.«01_k».proof.Proof.InProj
public import proofs.«01_k».proof.Proof.OutProj
public import proofs.«01_k».proof.Proof.Down
public import proofs.«01_k».proof.Proof.GateUp
public import proofs.«01_k».proof.Proof.DAct
public import Idealize.ShloMosaic.Lib.Claim
public import Idealize.ShloMosaic.Adequacy
public import Idealize.ShloMosaic.Init

@[expose] public section

noncomputable section

namespace Cert.Proof

open Idealize.ShloMosaic Idealize.SL.Sem Cert.Conv

/-- The reference of the short convolution's gradient runs to its end and leaves its arguments as they were. -/
theorem conv_ref_frame : Cert.quiescent_ConvRefIdeal := fun m ρ _ =>
  (θ_run Cert.ConvRefIdeal.defs _ _).mono (fun r h => ⟨fun c => (h c).2.2.2.2, sem_eq_zero_of_no_sems (by decide) r.2⟩)
    (Cert.ConvIdeal.Conv.run_ref m ρ)

/-- The short convolution's gradient: the kernel's four results are the reference's, over the extended reals. -/
theorem conv_algebraic : Cert.algebraic_ConvIdeal_ConvRefIdeal := by
  intro m g m' g' _ hagree
  refine ⟨_, _, _, _, Cert.ConvIdeal.Conv.run_kernel m g, (θ_run Cert.ConvRefIdeal.defs _ _).mono (fun r h c => ?_) (Cert.ConvIdeal.Conv.run_ref m' g')⟩
  obtain ⟨h0, h1, h2⟩ := hagree c
  rw [← h0, ← h1, ← h2]
  exact h c

/-- All the claims. -/
theorem claim : Cert.Claim := ⟨Cert.Conv.Gen.facts, Cert.ConvIdeal.Gen.facts, Cert.ConvRefIdeal.Gen.facts,
  Cert.DwGateUp.Gen.facts, Cert.DwGateUpIdeal.Gen.facts, Cert.DwGateUpRefIdeal.Gen.facts,
  Cert.DwDown.Gen.facts, Cert.DwDownIdeal.Gen.facts, Cert.DwDownRefIdeal.Gen.facts,
  Cert.DwO.Gen.facts, Cert.DwOIdeal.Gen.facts, Cert.DwORefIdeal.Gen.facts,
  Cert.DwIn.Gen.facts, Cert.DwInIdeal.Gen.facts, Cert.DwInRefIdeal.Gen.facts,
  Cert.DMixed.Gen.facts, Cert.DMixedIdeal.Gen.facts, Cert.DMixedRefIdeal.Gen.facts,
  Cert.DH.Gen.facts, Cert.DHIdeal.Gen.facts, Cert.DHRefIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts,
  Cert.Down.Gen.facts, Cert.DownIdeal.Gen.facts, Cert.DownRefIdeal.Gen.facts,
  Cert.GateUp.Gen.facts, Cert.GateUpIdeal.Gen.facts, Cert.GateUpRefIdeal.Gen.facts,
  Cert.DAct.Gen.facts, Cert.DActIdeal.Gen.facts, Cert.DActRefIdeal.Gen.facts, inferInstance,
  fun m ρ _ => Cert.Conv.Gen.frame m ρ, fun m ρ _ => Cert.ConvIdeal.Gen.frame m ρ, conv_ref_frame,
  fun m ρ _ => Cert.DwGateUp.Gen.frame m ρ, fun m ρ _ => Cert.DwGateUpIdeal.Gen.frame m ρ, Cert.DwGateUpIdeal.Mm.ref_frame,
  fun m ρ _ => Cert.DwDown.Gen.frame m ρ, fun m ρ _ => Cert.DwDownIdeal.Gen.frame m ρ, Cert.DwDownIdeal.Mm.ref_frame,
  fun m ρ _ => Cert.DwO.Gen.frame m ρ, fun m ρ _ => Cert.DwOIdeal.Gen.frame m ρ, Cert.DwOIdeal.Mm.ref_frame,
  fun m ρ _ => Cert.DwIn.Gen.frame m ρ, fun m ρ _ => Cert.DwInIdeal.Gen.frame m ρ, Cert.DwInIdeal.Mm.ref_frame,
  fun m ρ _ => Cert.DMixed.Gen.frame m ρ, fun m ρ _ => Cert.DMixedIdeal.Gen.frame m ρ, Cert.DMixedIdeal.Mm.ref_frame,
  fun m ρ _ => Cert.DH.Gen.frame m ρ, fun m ρ _ => Cert.DHIdeal.Gen.frame m ρ, Cert.DHIdeal.Mm.ref_frame,
  fun m ρ _ => Cert.InProj.Gen.frame m ρ, fun m ρ _ => Cert.InProjIdeal.Gen.frame m ρ, Cert.InProjIdeal.Mm.ref_frame,
  fun m ρ _ => Cert.OutProj.Gen.frame m ρ, fun m ρ _ => Cert.OutProjIdeal.Gen.frame m ρ, Cert.OutProjIdeal.Mm.ref_frame,
  fun m ρ _ => Cert.Down.Gen.frame m ρ, fun m ρ _ => Cert.DownIdeal.Gen.frame m ρ, Cert.DownIdeal.Mm.ref_frame,
  fun m ρ _ => Cert.GateUp.Gen.frame m ρ, fun m ρ _ => Cert.GateUpIdeal.Gen.frame m ρ, Cert.GateUpIdeal.Mm.ref_frame,
  fun m ρ _ => Cert.DAct.Gen.frame m ρ, fun m ρ _ => Cert.DActIdeal.Gen.frame m ρ, fun m ρ _ => Cert.DActIdeal.Gen.frame m ρ, Cert.DActIdeal.Mm.ref_frame, fun m ρ _ => Cert.DActIdeal.Mm.ref_frame m ρ trivial,
  trivial, conv_algebraic,
  trivial, Cert.DwGateUpIdeal.Mm.algebraic,
  trivial, Cert.DwDownIdeal.Mm.algebraic,
  trivial, Cert.DwOIdeal.Mm.algebraic,
  trivial, Cert.DwInIdeal.Mm.algebraic,
  trivial, Cert.DMixedIdeal.Mm.algebraic,
  trivial, Cert.DHIdeal.Mm.algebraic,
  trivial, Cert.InProjIdeal.Mm.algebraic,
  trivial, Cert.OutProjIdeal.Mm.algebraic,
  trivial, Cert.DownIdeal.Mm.algebraic,
  trivial, Cert.GateUpIdeal.Mm.algebraic,
  trivial, Cert.DActIdeal.Mm.algebraic⟩

end Cert.Proof
